-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x769 : Shape := ⟨2, ![8192, 769]⟩
abbrev S769x64 : Shape := ⟨2, ![769, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S769x8192 : Shape := ⟨2, ![769, 8192]⟩
abbrev S192 : Shape := ⟨1, ![192]⟩
abbrev S192x1 : Shape := ⟨2, ![192, 1]⟩
abbrev S64x769 : Shape := ⟨2, ![64, 769]⟩
abbrev S1x2048 : Shape := ⟨2, ![1, 2048]⟩
abbrev S192x769 : Shape := ⟨2, ![192, 769]⟩
abbrev S192x192 : Shape := ⟨2, ![192, 192]⟩
abbrev S256x2048 : Shape := ⟨2, ![256, 2048]⟩
abbrev S256x256 : Shape := ⟨2, ![256, 256]⟩
abbrev S2048x8192 : Shape := ⟨2, ![2048, 8192]⟩
abbrev S32x64x8192 : Shape := ⟨3, ![32, 64, 8192]⟩
abbrev S8192x32x64 : Shape := ⟨3, ![8192, 32, 64]⟩
abbrev S64x192 : Shape := ⟨2, ![64, 192]⟩
abbrev S61x2048 : Shape := ⟨2, ![61, 2048]⟩
abbrev S769x1024 : Shape := ⟨2, ![769, 1024]⟩
abbrev S2048x1024 : Shape := ⟨2, ![2048, 1024]⟩
abbrev S1x1024 : Shape := ⟨2, ![1, 1024]⟩
abbrev S192x1024 : Shape := ⟨2, ![192, 1024]⟩
abbrev S64x1024 : Shape := ⟨2, ![64, 1024]⟩
abbrev S61x1024 : Shape := ⟨2, ![61, 1024]⟩
abbrev S256x1024 : Shape := ⟨2, ![256, 1024]⟩

abbrev nBuf : Space → Nat
  | .hbm => 37
  | .vmem => 26
  | .smem => 0
  | _ => 0

abbrev bufTy : (tb : Table) → Fin (tcTables nBuf tb) → BufTy
  | .hbm, ⟨0, _⟩ => ⟨S8192x769, .f32⟩
  | .hbm, ⟨1, _⟩ => ⟨S769x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2048, .f32⟩
  | .hbm, ⟨6, _⟩ => ⟨S2048, .f32⟩
  | .hbm, ⟨7, _⟩ => ⟨S769x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x2048, .f32⟩
  | .hbm, ⟨12, _⟩ => ⟨S2048, .f32⟩
  | .hbm, ⟨13, _⟩ => ⟨S769x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x2048, .f32⟩
  | .hbm, ⟨18, _⟩ => ⟨S2048, .f32⟩
  | .hbm, ⟨19, _⟩ => ⟨S769x8192, .f32⟩
  | .hbm, ⟨20, _⟩ => ⟨S192, .f32⟩
  | .hbm, ⟨21, _⟩ => ⟨S192x1, .f32⟩
  | .hbm, ⟨22, _⟩ => ⟨S192, .f32⟩
  | .hbm, ⟨23, _⟩ => ⟨S192x1, .f32⟩
  | .hbm, ⟨24, _⟩ => ⟨S64x769, .f32⟩
  | .hbm, ⟨25, _⟩ => ⟨S64x769, .f32⟩
  | .hbm, ⟨26, _⟩ => ⟨S64x769, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S192x769, .bf16⟩
  | .hbm, ⟨31, _⟩ => ⟨S192x192, .bf16⟩
  | .hbm, ⟨32, _⟩ => ⟨S256x2048, .bf16⟩
  | .hbm, ⟨33, _⟩ => ⟨S256x256, .bf16⟩
  | .hbm, ⟨34, _⟩ => ⟨S2048x8192, .f32⟩
  | .hbm, ⟨35, _⟩ => ⟨S32x64x8192, .f32⟩
  | .hbm, ⟨36, _⟩ => ⟨S8192x32x64, .f32⟩
  | .local _ .vmem, ⟨0, _⟩ => ⟨S64x769, .f32⟩
  | .local _ .vmem, ⟨1, _⟩ => ⟨S64x769, .f32⟩
  | .local _ .vmem, ⟨2, _⟩ => ⟨S64x769, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S192x769, .bf16⟩
  | .local _ .vmem, ⟨13, _⟩ => ⟨S192x192, .bf16⟩
  | .local _ .vmem, ⟨14, _⟩ => ⟨S256x2048, .bf16⟩
  | .local _ .vmem, ⟨15, _⟩ => ⟨S256x256, .bf16⟩
  | .local _ .vmem, ⟨16, _⟩ => ⟨S769x1024, .f32⟩
  | .local _ .vmem, ⟨17, _⟩ => ⟨S769x1024, .f32⟩
  | .local _ .vmem, ⟨18, _⟩ => ⟨S192x769, .bf16⟩
  | .local _ .vmem, ⟨19, _⟩ => ⟨S192x1, .f32⟩
  | .local _ .vmem, ⟨20, _⟩ => ⟨S192x192, .bf16⟩
  | .local _ .vmem, ⟨21, _⟩ => ⟨S192x1, .f32⟩
  | .local _ .vmem, ⟨22, _⟩ => ⟨S256x2048, .bf16⟩
  | .local _ .vmem, ⟨23, _⟩ => ⟨S256x256, .bf16⟩
  | .local _ .vmem, ⟨24, _⟩ => ⟨S2048x1024, .f32⟩
  | .local _ .vmem, ⟨25, _⟩ => ⟨S2048x1024, .f32⟩
  | _, _ => ⟨S8192x769, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11_0 : Ref sig .tc := ⟨.hbm, 30, rfl⟩
abbrev main_call0_v11_1 : Ref sig .tc := ⟨.hbm, 31, rfl⟩
abbrev main_call0_v11_2 : Ref sig .tc := ⟨.hbm, 32, rfl⟩
abbrev main_call0_v11_3 : Ref sig .tc := ⟨.hbm, 33, rfl⟩
abbrev main_call0_v12 : Ref sig .tc := ⟨.hbm, 34, rfl⟩
abbrev main_call0_v13 : Ref sig .tc := ⟨.hbm, 35, rfl⟩
abbrev main_v0 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := .none

abbrev stage0_0 : Fin 1 → Memref sig .tc .vmem S64x769 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x769 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x769 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S192x769 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S192x192 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S769x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x769 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x192 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S192x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S8192x769 : Shape := ⟨2, ![8192, 769]⟩
abbrev S769x64 : Shape := ⟨2, ![769, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S8192x1 : Shape := ⟨2, ![8192, 1]⟩
abbrev S8192 : Shape := ⟨1, ![8192]⟩
abbrev S_ : Shape := ⟨0, ![]⟩
abbrev S8192x64 : Shape := ⟨2, ![8192, 64]⟩
abbrev S1x64 : Shape := ⟨2, ![1, 64]⟩
abbrev S8192x2048 : Shape := ⟨2, ![8192, 2048]⟩
abbrev S1x2048 : Shape := ⟨2, ![1, 2048]⟩
abbrev S8192x32x64 : Shape := ⟨3, ![8192, 32, 64]⟩
abbrev S8192x1x1 : Shape := ⟨3, ![8192, 1, 1]⟩

abbrev nBuf : Space → Nat
  | .hbm => 133
  | .vmem => 0
  | .smem => 0
  | _ => 0

abbrev hbmTy0_0 (i : Nat) : BufTy := match i % 128 with
  | 0 => ⟨S8192x769, .f32⟩
  | 1 => ⟨S769x64, .f32⟩
  | 2 => ⟨S64, .f32⟩
  | 3 => ⟨S64x64, .f32⟩
  | 4 => ⟨S64, .f32⟩
  | 5 => ⟨S64x2048, .f32⟩
  | 6 => ⟨S2048, .f32⟩
  | 7 => ⟨S769x64, .f32⟩
  | 8 => ⟨S64, .f32⟩
  | 9 => ⟨S64x64, .f32⟩
  | 10 => ⟨S64, .f32⟩
  | 11 => ⟨S64x2048, .f32⟩
  | 12 => ⟨S2048, .f32⟩
  | 13 => ⟨S769x64, .f32⟩
  | 14 => ⟨S64, .f32⟩
  | 15 => ⟨S64x64, .f32⟩
  | 16 => ⟨S64, .f32⟩
  | 17 => ⟨S64x2048, .f32⟩
  | 18 => ⟨S2048, .f32⟩
  | 19 => ⟨S8192x1, .f32⟩
  | 20 => ⟨S8192, .f32⟩
  | 21 => ⟨S_, .f32⟩
  | 22 => ⟨S8192, .f32⟩
  | 23 => ⟨S8192, .i1⟩
  | 24 => ⟨S_, .f32⟩
  | 25 => ⟨S8192, .f32⟩
  | 26 => ⟨S8192, .i1⟩
  | 27 => ⟨S8192, .i1⟩
  | 28 => ⟨S_, .f32⟩
  | 29 => ⟨S8192, .f32⟩
  | 30 => ⟨S8192, .i1⟩
  | 31 => ⟨S_, .f32⟩
  | 32 => ⟨S8192, .f32⟩
  | 33 => ⟨S8192, .i1⟩
  | 34 => ⟨S8192, .i1⟩
  | 35 => ⟨S_, .f32⟩
  | 36 => ⟨S8192, .f32⟩
  | 37 => ⟨S8192, .i1⟩
  | 38 => ⟨S_, .f32⟩
  | 39 => ⟨S8192, .f32⟩
  | 40 => ⟨S8192, .i1⟩
  | 41 => ⟨S8192, .i1⟩
  | 42 => ⟨S8192x64, .f32⟩
  | 43 => ⟨S1x64, .f32⟩
  | 44 => ⟨S8192x64, .f32⟩
  | 45 => ⟨S8192x64, .f32⟩
  | 46 => ⟨S_, .f32⟩
  | 47 => ⟨S8192x64, .f32⟩
  | 48 => ⟨S8192x64, .f32⟩
  | 49 => ⟨S8192x64, .f32⟩
  | 50 => ⟨S1x64, .f32⟩
  | 51 => ⟨S8192x64, .f32⟩
  | 52 => ⟨S8192x64, .f32⟩
  | 53 => ⟨S_, .f32⟩
  | 54 => ⟨S8192x64, .f32⟩
  | 55 => ⟨S8192x64, .f32⟩
  | 56 => ⟨S8192x2048, .f32⟩
  | 57 => ⟨S1x2048, .f32⟩
  | 58 => ⟨S8192x2048, .f32⟩
  | 59 => ⟨S8192x2048, .f32⟩
  | 60 => ⟨S_, .f32⟩
  | 61 => ⟨S8192x2048, .f32⟩
  | 62 => ⟨S8192x2048, .f32⟩
  | 63 => ⟨S8192x32x64, .f32⟩
  | 64 => ⟨S_, .f32⟩
  | 65 => ⟨S_, .f32⟩
  | 66 => ⟨S8192x32x64, .f32⟩
  | 67 => ⟨S8192x32x64, .f32⟩
  | 68 => ⟨S8192x64, .f32⟩
  | 69 => ⟨S1x64, .f32⟩
  | 70 => ⟨S8192x64, .f32⟩
  | 71 => ⟨S8192x64, .f32⟩
  | 72 => ⟨S_, .f32⟩
  | 73 => ⟨S8192x64, .f32⟩
  | 74 => ⟨S8192x64, .f32⟩
  | 75 => ⟨S8192x64, .f32⟩
  | 76 => ⟨S1x64, .f32⟩
  | 77 => ⟨S8192x64, .f32⟩
  | 78 => ⟨S8192x64, .f32⟩
  | 79 => ⟨S_, .f32⟩
  | 80 => ⟨S8192x64, .f32⟩
  | 81 => ⟨S8192x64, .f32⟩
  | 82 => ⟨S8192x2048, .f32⟩
  | 83 => ⟨S1x2048, .f32⟩
  | 84 => ⟨S8192x2048, .f32⟩
  | 85 => ⟨S8192x2048, .f32⟩
  | 86 => ⟨S_, .f32⟩
  | 87 => ⟨S8192x2048, .f32⟩
  | 88 => ⟨S8192x2048, .f32⟩
  | 89 => ⟨S8192x32x64, .f32⟩
  | 90 => ⟨S_, .f32⟩
  | 91 => ⟨S_, .f32⟩
  | 92 => ⟨S8192x32x64, .f32⟩
  | 93 => ⟨S8192x32x64, .f32⟩
  | 94 => ⟨S8192x64, .f32⟩
  | 95 => ⟨S1x64, .f32⟩
  | 96 => ⟨S8192x64, .f32⟩
  | 97 => ⟨S8192x64, .f32⟩
  | 98 => ⟨S_, .f32⟩
  | 99 => ⟨S8192x64, .f32⟩
  | 100 => ⟨S8192x64, .f32⟩
  | 101 => ⟨S8192x64, .f32⟩
  | 102 => ⟨S1x64, .f32⟩
  | 103 => ⟨S8192x64, .f32⟩
  | 104 => ⟨S8192x64, .f32⟩
  | 105 => ⟨S_, .f32⟩
  | 106 => ⟨S8192x64, .f32⟩
  | 107 => ⟨S8192x64, .f32⟩
  | 108 => ⟨S8192x2048, .f32⟩
  | 109 => ⟨S1x2048, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S8192x32x64, .f32⟩
  | 116 => ⟨S_, .f32⟩
  | 117 => ⟨S_, .f32⟩
  | 118 => ⟨S8192x32x64, .f32⟩
  | 119 => ⟨S8192x32x64, .f32⟩
  | 120 => ⟨S_, .f32⟩
  | 121 => ⟨S8192x32x64, .f32⟩
  | 122 => ⟨S8192x1x1, .i1⟩
  | 123 => ⟨S8192x32x64, .i1⟩
  | 124 => ⟨S8192x32x64, .f32⟩
  | 125 => ⟨S8192x1x1, .i1⟩
  | 126 => ⟨S8192x32x64, .i1⟩
  | 127 => ⟨S8192x32x64, .f32⟩
  | _ => ⟨S8192x769, .f32⟩

abbrev hbmTy0_1 (i : Nat) : BufTy := match i % 128 with
  | 0 => ⟨S8192x32x64, .f32⟩
  | 1 => ⟨S8192x1x1, .i1⟩
  | 2 => ⟨S8192x32x64, .i1⟩
  | 3 => ⟨S8192x32x64, .f32⟩
  | 4 => ⟨S8192x32x64, .f32⟩
  | _ => ⟨S8192x769, .f32⟩

abbrev hbmTy (i : Nat) : BufTy := match i / 128 with
  | 0 => hbmTy0_0 i
  | 1 => hbmTy0_1 i
  | _ => ⟨S8192x769, .f32⟩

abbrev bufTy : (tb : Table) → Fin (tcTables nBuf tb) → BufTy
  | .hbm, ⟨i, _⟩ => hbmTy i
  | _, _ => ⟨S8192x769, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_cst_4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call0_cst : Ref sig .tc := ⟨.hbm, 46, rfl⟩
abbrev main_call0_v0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_call1_cst : Ref sig .tc := ⟨.hbm, 53, rfl⟩
abbrev main_call1_v0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call2_cst : Ref sig .tc := ⟨.hbm, 60, rfl⟩
abbrev main_call2_v0 : Ref sig .tc := ⟨.hbm, 61, rfl⟩
abbrev main_v31 : Ref sig .tc := ⟨.hbm, 62, rfl⟩
abbrev main_v32 : Ref sig .tc := ⟨.hbm, 63, rfl⟩
abbrev main_call3_call0_cst : Ref sig .tc := ⟨.hbm, 64, rfl⟩
abbrev main_call3_call0_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_call5_cst : Ref sig .tc := ⟨.hbm, 72, rfl⟩
abbrev main_call5_v0 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_call6_cst : Ref sig .tc := ⟨.hbm, 79, rfl⟩
abbrev main_call6_v0 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call7_cst : Ref sig .tc := ⟨.hbm, 86, rfl⟩
abbrev main_call7_v0 : Ref sig .tc := ⟨.hbm, 87, rfl⟩
abbrev main_v49 : Ref sig .tc := ⟨.hbm, 88, rfl⟩
abbrev main_v50 : Ref sig .tc := ⟨.hbm, 89, rfl⟩
abbrev main_call8_call0_cst : Ref sig .tc := ⟨.hbm, 90, rfl⟩
abbrev main_call8_call0_v0 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call10_cst : Ref sig .tc := ⟨.hbm, 98, rfl⟩
abbrev main_call10_v0 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_call11_cst : Ref sig .tc := ⟨.hbm, 105, rfl⟩
abbrev main_call11_v0 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call12_cst : Ref sig .tc := ⟨.hbm, 112, rfl⟩
abbrev main_call12_v0 : Ref sig .tc := ⟨.hbm, 113, rfl⟩
abbrev main_v67 : Ref sig .tc := ⟨.hbm, 114, rfl⟩
abbrev main_v68 : Ref sig .tc := ⟨.hbm, 115, rfl⟩
abbrev main_call13_call0_cst : Ref sig .tc := ⟨.hbm, 116, rfl⟩
abbrev main_call13_call0_v0 : Ref sig .tc := ⟨.hbm, 117, rfl⟩
abbrev main_v69 : Ref sig .tc := ⟨.hbm, 118, rfl⟩
abbrev main_v70 : Ref sig .tc := ⟨.hbm, 119, rfl⟩
abbrev main_cst_5 : Ref sig .tc := ⟨.hbm, 120, rfl⟩
abbrev main_v71 : Ref sig .tc := ⟨.hbm, 121, rfl⟩
abbrev main_v72 : Ref sig .tc := ⟨.hbm, 122, rfl⟩
abbrev main_call15_v0 : Ref sig .tc := ⟨.hbm, 123, rfl⟩
abbrev main_v73 : Ref sig .tc := ⟨.hbm, 124, rfl⟩
abbrev main_v74 : Ref sig .tc := ⟨.hbm, 125, rfl⟩
abbrev main_call16_v0 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_call17_v0 : Ref sig .tc := ⟨.hbm, 130, rfl⟩
abbrev main_v78 : Ref sig .tc := ⟨.hbm, 131, rfl⟩
abbrev main_v79 : Ref sig .tc := ⟨.hbm, 132, rfl⟩

abbrev nD : Nat := 1
abbrev τ : Topo := Topo.v7x

variable {F : FTy → Type} [FloatOps F]
-- ==== Proof.KernelRun.lean ====
/- The kernel program's run, with its result: every execution ends, the result array holds what the host stretch after
   the second region leaves in it (`Gen.W4`), the arguments stay as launched. The launch is set up
   as the frame's is; what is new is that the final state is read at the result array too. -/
module

public import proofs.«01_k».proof.Proof.Gen.KernelIdeal.Frame
public import Idealize.ShloMosaic.Lib.Claim

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program runs to the end with every TensorCore buffer at the contents of the last boundary. -/
theorem run_boundary : θ_run defs (onTc (τ := τ) (main (F := F))) ⟨m, fun _ => 0, ρ⟩ (fun r =>
      ∀ (c : Dev nD) (b : Ref sig .tc), ¬ (Proc.devRef .tc b : DevRef τ sig).isScoped →
        r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ (mem_uc b hb))

/-- The kernel program runs to the end; the result array holds what the last host stretch leaves in it, and every
    argument is as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  θ_run_mono (run_boundary m ρ) fun r h c =>
    ⟨h c main_v0 (by decide),
     (h c main_arg0 (by decide)).trans (W4_main_arg0 m ρ c),
     (h c main_arg1 (by decide)).trans (W4_main_arg1 m ρ c),
     (h c main_arg2 (by decide)).trans (W4_main_arg2 m ρ c),
     (h c main_arg3 (by decide)).trans (W4_main_arg3 m ρ c),
     (h c main_arg4 (by decide)).trans (W4_main_arg4 m ρ c),
     (h c main_arg5 (by decide)).trans (W4_main_arg5 m ρ c),
     (h c main_arg6 (by decide)).trans (W4_main_arg6 m ρ c),
     (h c main_arg7 (by decide)).trans (W4_main_arg7 m ρ c),
     (h c main_arg8 (by decide)).trans (W4_main_arg8 m ρ c),
     (h c main_arg9 (by decide)).trans (W4_main_arg9 m ρ c),
     (h c main_arg10 (by decide)).trans (W4_main_arg10 m ρ c),
     (h c main_arg11 (by decide)).trans (W4_main_arg11 m ρ c),
     (h c main_arg12 (by decide)).trans (W4_main_arg12 m ρ c),
     (h c main_arg13 (by decide)).trans (W4_main_arg13 m ρ c),
     (h c main_arg14 (by decide)).trans (W4_main_arg14 m ρ c),
     (h c main_arg15 (by decide)).trans (W4_main_arg15 m ρ c),
     (h c main_arg16 (by decide)).trans (W4_main_arg16 m ρ c),
     (h c main_arg17 (by decide)).trans (W4_main_arg17 m ρ c),
     (h c main_arg18 (by decide)).trans (W4_main_arg18 m ρ c)⟩

end Cert.KernelIdeal.Value

end
-- ==== Proof.Spec.lean ====
/- What both programs compute, as plain sums over the extended reals: three dense layers with a positive part, the
   shifted block sum that follows them, and the three ranges of the last column that choose between the networks. -/
module

public import Idealize.ShloMosaic.Lib.Pointwise

@[expose] public section

noncomputable section

namespace Cert.Spec

open Idealize.ShloMosaic

/-- A choice by the conjunction of two comparisons' bits is the choice by the conjunction. -/
theorem select_and {α : Type} (p q : Prop) [Decidable p] [Decidable q] [Decidable (p ∧ q)] (x y : α) :
    Scalar.select (IntOp.andi (BitVec.ofBool (decide p)) (BitVec.ofBool (decide q))) x y = if p ∧ q then x else y := by
  by_cases hp : p <;> by_cases hq : q <;> simp [hp, hq, Scalar.select, IntOp.andi]

/-- One dense layer and its positive part: `max (∑ k, x k * w k j + b j) 0`. -/
def dense {a b : Nat} (x : Fin a → EReal) (w : Fin a → Fin b → EReal) (β : Fin b → EReal) (j : Fin b) : EReal :=
  max (∑ k : Fin a, x k * w k j + β j) 0

/-- A network's parameters: three weight matrices (rows are inputs) and three biases. -/
structure Net where
  w1 : Fin 769 → Fin 64 → EReal
  b1 : Fin 64 → EReal
  w2 : Fin 64 → Fin 64 → EReal
  b2 : Fin 64 → EReal
  w3 : Fin 64 → Fin 2048 → EReal
  b3 : Fin 2048 → EReal

/-- A network's 2048 outputs on one row of inputs. -/
def Net.out (p : Net) (x : Fin 769 → EReal) : Fin 2048 → EReal :=
  dense (dense (dense x p.w1 p.b1) p.w2 p.b2) p.w3 p.b3

/-- Position `64 a + k` of a row of 2048. -/
abbrev pos (a : Fin 32) (k : Fin 64) : Fin 2048 := ⟨a.val * 64 + k.val, by omega⟩

/-- Block `a`'s sum up to the position that `s` mirrors: the entries `k` of the block with `k + s ≤ 63`. -/
def blockSum (h : Fin 2048 → EReal) (a : Fin 32) (s : Fin 64) : EReal :=
  ∑ k : Fin 64, if k.val + s.val ≤ 63 then h (pos a k) else 0

/-- The three ranges of the last column: below a half, from a half to below three quarters, from three quarters to one. -/
def inRange (g : EReal) : Fin 3 → Prop
  | 0 => 0 ≤ g ∧ g < Ideal.ofBits .f32 0x3F000000#32
  | 1 => Ideal.ofBits .f32 0x3F000000#32 ≤ g ∧ g < Ideal.ofBits .f32 0x3F400000#32
  | 2 => Ideal.ofBits .f32 0x3F400000#32 ≤ g ∧ g ≤ 1

/-- The constant `0x3F000000` is one half. -/
theorem half_val : Ideal.ofBits .f32 0x3F000000#32 = ((1 / 2 : ℝ) : EReal) := by
  simp [Ideal.ofBits, Ideal.ieee, -EReal.coe_mul]; norm_num

/-- The constant `0x3F400000` is three quarters. -/
theorem threeQuarters_val : Ideal.ofBits .f32 0x3F400000#32 = ((3 / 4 : ℝ) : EReal) := by
  simp [Ideal.ofBits, Ideal.ieee, -EReal.coe_mul]; norm_num

/-- A half is at most three quarters. -/
theorem half_le : Ideal.ofBits .f32 0x3F000000#32 ≤ Ideal.ofBits .f32 0x3F400000#32 := by
  rw [half_val, threeQuarters_val]
  exact EReal.coe_le_coe_iff.mpr (by norm_num)

/-- A value lies in at most one of the ranges. -/
theorem inRange_unique {g : EReal} {c d : Fin 3} (hc : inRange g c) (hd : inRange g d) : c = d := by
  have h := half_le
  match c, d, hc, hd with
  | 0, 0, _, _ => rfl
  | 1, 1, _, _ => rfl
  | 2, 2, _, _ => rfl
  | 0, 1, hc, hd => exact absurd hd.1 (not_le.mpr hc.2)
  | 1, 0, hc, hd => exact absurd hc.1 (not_le.mpr hd.2)
  | 0, 2, hc, hd => exact absurd (h.trans hd.1) (not_le.mpr hc.2)
  | 2, 0, hc, hd => exact absurd (h.trans hc.1) (not_le.mpr hd.2)
  | 1, 2, hc, hd => exact absurd hd.1 (not_le.mpr hc.2)
  | 2, 1, hc, hd => exact absurd hc.1 (not_le.mpr hd.2)

open Classical in
/-- The result of one row: for each range that holds the row's last column, its network's block sum. -/
def result (p : Fin 3 → Net) (x : Fin 769 → EReal) (a : Fin 32) (s : Fin 64) : EReal :=
  ∑ c : Fin 3, if inRange (x 768) c then blockSum ((p c).out x) a s else 0

end Cert.Spec

end
-- ==== Proof.Equation.lean ====
/- The arithmetic of the fused kernel on one row, over the extended reals: the three networks side by side under masks that
   are 0 or 1 and of which at most one is 1 give the outputs of the network whose mask is 1 (zeros when none is), and the
   product with the 0/1 matrix gives the block sums. Zero times anything is zero here, so nothing has to be finite. -/
module

public import proofs.«01_k».proof.Proof.Spec

@[expose] public section

noncomputable section

namespace Cert.Spec

open Idealize.ShloMosaic

/-- Row `j` of block `c` among three blocks of 64. -/
abbrev row (c : Fin 3) (j : Fin 64) : Fin 192 := ⟨c.val * 64 + j.val, by omega⟩

/-- Row `j` of block `c` among the 256 rows of the third layer's stack. -/
abbrev row3 (c : Fin 3) (j : Fin 64) : Fin 256 := ⟨c.val * 64 + j.val, by omega⟩

/-- The row of the third layer's stack that holds bias `c`. -/
abbrev biasRow (c : Fin 3) : Fin 256 := ⟨192 + c.val, by omega⟩

open Classical in
/-- The mask of a range: 1 where it holds the value, else 0. -/
def mask (g : EReal) (c : Fin 3) : EReal := if inRange g c then 1 else 0

/-- The first hidden layer of network `c`, under its mask. -/
def hid1 (p : Fin 3 → Net) (x : Fin 769 → EReal) (c : Fin 3) (j : Fin 64) : EReal :=
  max (∑ i : Fin 769, (p c).w1 i j * x i + (p c).b1 j) 0 * mask (x 768) c

/-- The second hidden layer of network `c`, from all three first layers through a block diagonal matrix, under its mask. -/
def hid2 (p : Fin 3 → Net) (x : Fin 769 → EReal) (c : Fin 3) (j : Fin 64) : EReal :=
  max (∑ d : Fin 3, ∑ k : Fin 64, (if d = c then (p d).w2 k j else 0) * hid1 p x d k + (p c).b2 j) 0 * mask (x 768) c

/-- The third layer: the three networks' weights on the masked second layers, and the biases on the masks. -/
def lay3 (p : Fin 3 → Net) (x : Fin 769 → EReal) (o : Fin 2048) : EReal :=
  max (∑ c : Fin 3, ∑ k : Fin 64, (p c).w3 k o * hid2 p x c k + ∑ c : Fin 3, (p c).b3 o * mask (x 768) c) 0

/-- A dense layer with its factors the other way round. -/
theorem dense_eq {a b : Nat} (x : Fin a → EReal) (w : Fin a → Fin b → EReal) (β : Fin b → EReal) (j : Fin b) :
    dense x w β j = max (∑ k : Fin a, w k j * x k + β j) 0 := by
  unfold dense
  simp only [mul_comm]

/-- Where a range holds the last column, its mask is 1. -/
theorem mask_one {g : EReal} {c : Fin 3} (h : inRange g c) : mask g c = 1 := if_pos h

/-- Where a range does not hold the last column, its mask is 0. -/
theorem mask_zero {g : EReal} {c : Fin 3} (h : ¬ inRange g c) : mask g c = 0 := if_neg h

/-- A row in range `c`: the fused layers give network `c`'s outputs. -/
theorem lay3_of_inRange (p : Fin 3 → Net) (x : Fin 769 → EReal) (c : Fin 3) (h : inRange (x 768) c) (o : Fin 2048) :
    lay3 p x o = (p c).out x o := by
  have hne : ∀ d : Fin 3, d ≠ c → mask (x 768) d = 0 := fun d hd => mask_zero fun h' => hd (inRange_unique h' h)
  have h1 : ∀ j, hid1 p x c j = dense x (p c).w1 (p c).b1 j := fun j => by
    unfold hid1
    rw [mask_one h, mul_one, dense_eq]
  have h2 : ∀ j, hid2 p x c j = dense (dense x (p c).w1 (p c).b1) (p c).w2 (p c).b2 j := fun j => by
    unfold hid2
    rw [mask_one h, mul_one, Finset.sum_eq_single c (fun d _ hd => Finset.sum_eq_zero fun k _ => by rw [if_neg hd, zero_mul])
      (fun hc => absurd (Finset.mem_univ c) hc)]
    refine Eq.trans ?_ (dense_eq _ _ _ _).symm
    simp only [if_true, h1]
  unfold lay3 Net.out
  rw [Finset.sum_eq_single c (fun d _ hd => Finset.sum_eq_zero fun k _ => by rw [hid2, hne d hd, mul_zero, mul_zero])
      (fun hc => absurd (Finset.mem_univ c) hc),
    Finset.sum_eq_single c (fun d _ hd => by rw [hne d hd, mul_zero]) (fun hc => absurd (Finset.mem_univ c) hc),
    mask_one h, mul_one]
  refine Eq.trans ?_ (dense_eq _ _ _ _).symm
  simp only [h2]

/-- A row in no range: the fused layers give zeros. -/
theorem lay3_of_none (p : Fin 3 → Net) (x : Fin 769 → EReal) (h : ∀ c, ¬ inRange (x 768) c) (o : Fin 2048) : lay3 p x o = 0 := by
  unfold lay3
  rw [Finset.sum_eq_zero fun c _ => Finset.sum_eq_zero fun k _ => by rw [hid2, mask_zero (h c), mul_zero, mul_zero],
    Finset.sum_eq_zero fun c _ => by rw [mask_zero (h c), mul_zero], add_zero, max_self]

/-- The block sums of the fused layers are the row's result. -/
theorem blockSum_lay3 (p : Fin 3 → Net) (x : Fin 769 → EReal) (a : Fin 32) (s : Fin 64) :
    blockSum (lay3 p x) a s = result p x a s := by
  unfold result
  by_cases h : ∃ c, inRange (x 768) c
  · obtain ⟨c, hc⟩ := h
    rw [Finset.sum_eq_single c (fun d _ hd => if_neg fun h' => hd (inRange_unique h' hc)) (fun h' => absurd (Finset.mem_univ c) h'),
      if_pos hc, funext fun o => lay3_of_inRange p x c hc o]
  · have hn : ∀ c, ¬ inRange (x 768) c := fun c hc => h ⟨c, hc⟩
    rw [funext fun o => lay3_of_none p x hn o, Finset.sum_eq_zero fun c _ => if_neg (hn c)]
    exact Finset.sum_eq_zero fun k _ => by split <;> rfl

/-- The 0/1 entry that adds position `k` into position `j` of a tile of 256: same block of 64, `k` at or before `j`'s mirror. -/
def tri (j k : Fin 256) : EReal := if j.val / 64 = k.val / 64 ∧ j.val % 64 + k.val % 64 ≤ 63 then 1 else 0

/-- A tile's product with the 0/1 matrix, at position `64 a + s` of the row, is the block sum. -/
theorem sum_tri (y : Fin 2048 → EReal) (a : Fin 32) (s : Fin 64) (j : Fin 256) (q : Fin 8)
    (hj : j.val = a.val % 4 * 64 + s.val) (hq : q.val = a.val / 4) :
    ∑ k : Fin 256, tri j k * y ⟨q.val * 256 + k.val, by omega⟩ = blockSum y a s := by
  have ha := a.isLt
  have hs := s.isLt
  rw [Fin.sum_univ_tiles 4 64 rfl, Finset.sum_eq_single (⟨a.val % 4, by omega⟩ : Fin 4)]
  · refine Finset.sum_congr rfl fun k _ => ?_
    have hk := k.isLt
    unfold tri
    dsimp only
    by_cases hc : k.val + s.val ≤ 63
    · rw [if_pos hc, if_pos (by constructor <;> omega), one_mul]
      exact congrArg y (Fin.ext (by show q.val * 256 + (a.val % 4 * 64 + k.val) = a.val * 64 + k.val; omega))
    · rw [if_neg hc, if_neg (by omega), zero_mul]
  · intro b _ hb
    have hb' : b.val ≠ a.val % 4 := fun e => hb (Fin.ext e)
    refine Finset.sum_eq_zero fun k _ => ?_
    have hk := k.isLt
    unfold tri
    rw [if_neg (by dsimp only; omega), zero_mul]
  · exact fun h => absurd (Finset.mem_univ _) h

/-- A sum over 192 rows, block by block. -/
theorem sum_rows (f : Fin 192 → EReal) : ∑ k : Fin 192, f k = ∑ c : Fin 3, ∑ j : Fin 64, f (row c j) :=
  Fin.sum_univ_tiles 3 64 rfl f

/-- A sum over the 256 rows of the third layer's stack: the three blocks, the three bias rows, the 61 others. -/
theorem sum_stack (f : Fin 256 → EReal) (h : ∀ k : Fin 256, 195 ≤ k.val → f k = 0) :
    ∑ k : Fin 256, f k = ∑ c : Fin 3, ∑ j : Fin 64, f (row3 c j) + ∑ c : Fin 3, f (biasRow c) := by
  rw [Fin.sum_univ_add (a := 192) (b := 64) f, Fin.sum_univ_tiles 3 64 rfl, Fin.sum_univ_add (a := 3) (b := 61)]
  rw [Finset.sum_eq_zero (s := (Finset.univ : Finset (Fin 61))) fun k _ => h _ (by
    show 195 ≤ 192 + (3 + k.val); omega), add_zero]
  rfl

end Cert.Spec

end
-- ==== Proof.Words.lean ====
/- The two integer computations of the preparing kernel at one index (a floor division by 64 and a floor remainder by 64 of a
   coordinate below 256, both with their sign corrections), the comparison of sums against 63, and the mask bits made floats. -/
module

public import proofs.«01_k».proof.Proof.Spec

@[expose] public section

set_option maxRecDepth 16384

noncomputable section

namespace Cert.Spec

open Idealize.ShloMosaic

/-- The floor quotient of a word by 64, as it is computed: the truncated quotient, less one where signs differ and the
    division leaves a remainder. -/
def quoWord (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- The floor remainder of a word by 64, as it is computed. -/
def remWord (w : BitVec 32) : BitVec 32 :=
  Scalar.select
    (IntOp.andi
      (IntOp.xori
        (IntOp.cmpi CmpIPredicate.slt
          (IntOp.remsi ArithUnit.vector w
            (Scalar.select (Scalar.cmpi CmpIPredicate.eq 64#32 0#32) 1#32 64#32))
          0#32)
        (Scalar.cmpi CmpIPredicate.slt (Scalar.select (Scalar.cmpi CmpIPredicate.eq 64#32 0#32) 1#32 64#32)
          0#32))
      (IntOp.cmpi CmpIPredicate.ne
        (IntOp.remsi ArithUnit.vector w
          (Scalar.select (Scalar.cmpi CmpIPredicate.eq 64#32 0#32) 1#32 64#32))
        0#32))
    (IntOp.addi
      (IntOp.remsi ArithUnit.vector w
        (Scalar.select (Scalar.cmpi CmpIPredicate.eq 64#32 0#32) 1#32 64#32))
      (Scalar.select (Scalar.cmpi CmpIPredicate.eq 64#32 0#32) 1#32 64#32))
    (IntOp.remsi ArithUnit.vector w
      (Scalar.select (Scalar.cmpi CmpIPredicate.eq 64#32 0#32) 1#32 64#32))

/-- Below 256 the computed floor quotient is the quotient (each of the 256 coordinates evaluated). -/
theorem quoWord_eq : ∀ j : Fin 256, quoWord (BitVec.ofNat 32 j.val) = BitVec.ofNat 32 (j.val / 64) := by decide +kernel

/-- Below 256 the computed floor remainder is the remainder (each of the 256 coordinates evaluated). -/
theorem remWord_eq : ∀ j : Fin 256, remWord (BitVec.ofNat 32 j.val) = BitVec.ofNat 32 (j.val % 64) := by decide +kernel

/-- Two quotients, below 4, compare as words as they do as numbers. -/
theorem eqWord : ∀ a b : Fin 4, IntOp.cmpi CmpIPredicate.eq (BitVec.ofNat 32 a.val) (BitVec.ofNat 32 b.val) = BitVec.ofBool (decide (a.val = b.val)) := by
  decide +kernel

/-- A sum of two remainders, below 127, compares with 63 as a word as it does as a number. -/
theorem leWord : ∀ n : Fin 127, IntOp.cmpi CmpIPredicate.sle (BitVec.ofNat 32 n.val) 63#32 = BitVec.ofBool (decide (n.val ≤ 63)) := by
  decide +kernel

/-- A conjunction of two bits, widened and made a float, is 1 where both hold, else 0. -/
theorem bitFloat (p q : Prop) [Decidable p] [Decidable q] [Decidable (p ∧ q)] :
    (FloatOps.sitofp (F := Ideal) FTy.f32 (BitVec.setWidth 32 (IntOp.andi (BitVec.ofBool (decide p)) (BitVec.ofBool (decide q)))) : EReal)
      = if p ∧ q then 1 else 0 := by
  have h1 : (FloatOps.sitofp (F := Ideal) FTy.f32 (1#32) : EReal) = 1 := by
    show (((1#32 : BitVec 32).toInt : ℝ) : EReal) = 1
    rw [show (1#32 : BitVec 32).toInt = 1 from rfl]; norm_num
  have h0 : (FloatOps.sitofp (F := Ideal) FTy.f32 (0#32) : EReal) = 0 := by
    show (((0#32 : BitVec 32).toInt : ℝ) : EReal) = 0
    rw [show (0#32 : BitVec 32).toInt = 0 from rfl]; norm_num
  by_cases hp : p <;> by_cases hq : q <;> simp [hp, hq, IntOp.andi, h0, h1]

end Cert.Spec

end
-- ==== Proof.Tile.lean ====
/- One grid step of the main kernel at an index: the masks, the three layers over stacked weights, and the product with
   the triangular factor that stands in for the running sum. The last part draws the step's output block together, given
   what the prepared weight arrays hold. -/
module

public import proofs.«01_k».proof.Proof.Gen.KernelIdeal.Frame
public import proofs.«01_k».proof.Proof.Equation
public import proofs.«01_k».proof.Proof.Words
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

/-- The mask row of range `c`, of a block of transposed inputs. -/
def maskRow (x0 : Vec Ideal S769x1024 .f32) : Fin 3 → FVec Ideal S1x1024 .f32
  | 0 => k1_pay8 x0
  | 1 => k1_pay9 x0
  | 2 => k1_pay10 x0

open Classical in
/-- A mask row at a lane: the mask of the lane's last input. -/
theorem mask_at (x0 : Vec Ideal S769x1024 .f32) (c : Fin 3) (l : Fin 1024) : maskRow x0 c (ix2 0 l) = mask (x0 (ix2 768 l)) c := by
  match c with
  | 0 =>
    unfold maskRow
    pointwise [k1_pay8, k1_pay7, k1_pay6]
    exact (bitFloat _ _).trans (if_congr Iff.rfl rfl rfl)
  | 1 =>
    unfold maskRow
    pointwise [k1_pay9, k1_pay7, k1_pay6]
    exact (bitFloat _ _).trans (if_congr Iff.rfl rfl rfl)
  | 2 =>
    unfold maskRow
    pointwise [k1_pay10, k1_pay7, k1_pay6]
    exact (bitFloat _ _).trans (if_congr Iff.rfl rfl rfl)

/-- The first layer of block `c` under its mask. -/
theorem pay11_at (x0 : Vec Ideal S769x1024 .f32) (x1 : Vec Ideal S192x769 .bf16) (x2 : Vec Ideal S192x1 .f32) (c : Fin 3) (j : Fin 64) (l : Fin 1024) :
    k1_pay11 x0 x1 x2 (ix2 (row c j) l)
      = max (∑ i : Fin 769, x1 (ix2 (row c j) i) * x0 (ix2 i l) + x2 (ix2 (row c j) 0)) 0 * maskRow x0 c (ix2 0 l) := by
  match c with
  | 0 =>
    have hj : row 0 j = ⟨j.val, by omega⟩ := Fin.ext (by simp [row])
    rw [hj]
    pointwise [k1_pay11, k1_pay6]
    rfl
  | 1 =>
    have hj : row 1 j = ⟨64 + j.val, by omega⟩ := Fin.ext (by simp [row])
    rw [hj]
    pointwise [k1_pay11, k1_pay6]
    rfl
  | 2 =>
    have hj : row 2 j = ⟨128 + j.val, by omega⟩ := Fin.ext (by simp [row])
    rw [hj]
    pointwise [k1_pay11, k1_pay6]
    rw [dif_neg (show ¬ 128 + j.val < 64 by omega), dif_neg (show ¬ 128 + j.val - 64 < 64 by omega)]
    have hk : (⟨128 + (128 + j.val - 64 - 64), by omega⟩ : Fin 192) = ⟨128 + j.val, by omega⟩ := Fin.ext (by show 128 + (128 + j.val - 64 - 64) = 128 + j.val; omega)
    rw [hk]
    rfl

/-- The second layer of block `c` under its mask, before the masked rows are stacked. -/
def lay2 (x0 : Vec Ideal S769x1024 .f32) (g : FVec Ideal S192x1024 .f32) (x3 : Vec Ideal S192x192 .bf16) (x4 : Vec Ideal S192x1 .f32)
    (c : Fin 3) (j : Fin 64) (l : Fin 1024) : EReal :=
  max (∑ k : Fin 192, x3 (ix2 k (row c j)) * g (ix2 k l) + x4 (ix2 (row c j) 0)) 0 * maskRow x0 c (ix2 0 l)

/-- The third layer at an index: over the three blocks of 64 rows and the three bias rows. -/
theorem pay12_at (x0 : Vec Ideal S769x1024 .f32) (g : FVec Ideal S192x1024 .f32) (x3 : Vec Ideal S192x192 .bf16) (x4 : Vec Ideal S192x1 .f32)
    (x5 : Vec Ideal S256x2048 .bf16) (o : Fin 2048) (l : Fin 1024) :
    k1_pay12 (maskRow x0 0) (maskRow x0 1) (maskRow x0 2) g x3 x4 x5 (ix2 o l)
      = max (∑ c : Fin 3, ∑ k : Fin 64, x5 (ix2 (row3 c k) o) * lay2 x0 g x3 x4 c k l
          + ∑ c : Fin 3, x5 (ix2 (biasRow c) o) * maskRow x0 c (ix2 0 l)) 0 := by
  pointwise [k1_pay12]
  rw [sum_stack _ (by
    intro k hk
    have h1 : ¬ k.val < 64 := by omega
    have h2 : ¬ k.val - 64 < 64 := by omega
    have h3 : ¬ k.val - 64 - 64 < 64 := by omega
    have h4 : ¬ k.val - 64 - 64 - 64 < 1 := by omega
    have h5 : ¬ k.val - 64 - 64 - 64 - 1 < 1 := by omega
    have h6 : ¬ k.val - 64 - 64 - 64 - 1 - 1 < 1 := by omega
    rw [dif_neg h1, dif_neg h2, dif_neg h3, dif_neg h4, dif_neg h5, dif_neg h6, mul_zero])]
  refine congrArg (fun z : EReal => max z 0) (congrArg₂ (· + ·) (Finset.sum_congr rfl fun c _ => Finset.sum_congr rfl fun k _ => congrArg (fun z : EReal => x5 (ix2 (row3 c k) o) * z) ?_) (Finset.sum_congr rfl fun c _ => congrArg (fun z : EReal => x5 (ix2 (biasRow c) o) * z) ?_))
  · match c with
    | 0 =>
      have hk : row3 0 k = ⟨k.val, by omega⟩ := Fin.ext (by simp [row3])
      have hr : row 0 k = ⟨k.val, by omega⟩ := Fin.ext (by simp [row])
      rw [hk, dif_pos k.isLt]
      unfold lay2
      rw [hr]
    | 1 =>
      have hk : row3 1 k = ⟨64 + k.val, by omega⟩ := Fin.ext (by simp [row3])
      have hr : row 1 k = ⟨64 + (64 + k.val - 64), by omega⟩ := Fin.ext (by simp [row])
      rw [hk, dif_neg (show ¬ 64 + k.val < 64 by omega), dif_pos (show 64 + k.val - 64 < 64 by omega)]
      unfold lay2
      rw [hr]
    | 2 =>
      have hk : row3 2 k = ⟨128 + k.val, by omega⟩ := Fin.ext (by simp [row3])
      have hr : row 2 k = ⟨128 + (128 + k.val - 64 - 64), by omega⟩ := Fin.ext (by simp [row]; omega)
      rw [hk, dif_neg (show ¬ 128 + k.val < 64 by omega), dif_neg (show ¬ 128 + k.val - 64 < 64 by omega), dif_pos (show 128 + k.val - 64 - 64 < 64 by omega)]
      unfold lay2
      rw [hr]
  · match c with
    | 0 => rfl
    | 1 => rfl
    | 2 => rfl

/-- The output block: each row is a row of the last factor against the 256 rows of its tile of the third layer. -/
theorem out_tile (x0 : Vec Ideal S769x1024 .f32) (x1 : Vec Ideal S192x769 .bf16) (x2 : Vec Ideal S192x1 .f32) (x3 : Vec Ideal S192x192 .bf16)
    (x4 : Vec Ideal S192x1 .f32) (x5 : Vec Ideal S256x2048 .bf16) (x6 : Vec Ideal S256x256 .bf16) (y : S2048x1024.Idx) :
    out1_7 x0 x1 x2 x3 x4 x5 x6 y
      = ∑ k : Fin 256, x6 (ix2 ⟨(y 0).val % 256, by omega⟩ k)
          * k1_pay12 (F := Ideal) (k1_pay8 x0) (k1_pay9 x0) (k1_pay10 x0) (k1_pay11 x0 x1 x2) x3 x4 x5
              (ix2 ⟨(y 0).val / 256 * 256 + k.val, by have := (y 0).isLt; simp at this; omega⟩ ⟨(y 1).val, (y 1).isLt⟩) := by
  unfold out1_7
  canon_tiles x h
  all_goals (open_payloads; generalize k1_pay12 (F := Ideal) _ _ _ _ _ _ _ = T; pointwise; blk_point [])

/-- A block of the second region's inputs at a column: the inputs of the column, and the prepared weights of three nets. -/
structure Prepared (p : Fin 3 → Net) (X : Fin 769 → EReal) (l : Fin 1024)
    (x0 : Vec Ideal S769x1024 .f32) (x1 : Vec Ideal S192x769 .bf16) (x2 : Vec Ideal S192x1 .f32) (x3 : Vec Ideal S192x192 .bf16)
    (x4 : Vec Ideal S192x1 .f32) (x5 : Vec Ideal S256x2048 .bf16) (x6 : Vec Ideal S256x256 .bf16) : Prop where
  column : ∀ i, x0 (ix2 i l) = X i
  first : ∀ c j i, x1 (ix2 (row c j) i) = (p c).w1 i j
  firstBias : ∀ c j, x2 (ix2 (row c j) 0) = (p c).b1 j
  second : ∀ d k c j, x3 (ix2 (row d k) (row c j)) = if d = c then (p d).w2 k j else 0
  secondBias : ∀ c j, x4 (ix2 (row c j) 0) = (p c).b2 j
  third : ∀ c k o, x5 (ix2 (row3 c k) o) = (p c).w3 k o
  thirdBias : ∀ c o, x5 (ix2 (biasRow c) o) = (p c).b3 o
  last : ∀ j k, x6 (ix2 j k) = tri j k

variable {p : Fin 3 → Net} {X : Fin 769 → EReal} {l : Fin 1024}
  {x0 : Vec Ideal S769x1024 .f32} {x1 : Vec Ideal S192x769 .bf16} {x2 : Vec Ideal S192x1 .f32} {x3 : Vec Ideal S192x192 .bf16}
  {x4 : Vec Ideal S192x1 .f32} {x5 : Vec Ideal S256x2048 .bf16} {x6 : Vec Ideal S256x256 .bf16}

/-- The first layer of a prepared block. -/
theorem Prepared.hid1_at (P : Prepared p X l x0 x1 x2 x3 x4 x5 x6) (c : Fin 3) (j : Fin 64) :
    k1_pay11 x0 x1 x2 (ix2 (row c j) l) = hid1 p X c j := by
  rw [pay11_at, mask_at, P.column, P.firstBias]
  simp only [P.column, P.first]
  rfl

/-- The second layer of a prepared block. -/
theorem Prepared.hid2_at (P : Prepared p X l x0 x1 x2 x3 x4 x5 x6) (c : Fin 3) (j : Fin 64) :
    lay2 x0 (k1_pay11 x0 x1 x2) x3 x4 c j l = hid2 p X c j := by
  unfold lay2
  rw [mask_at, P.column, P.secondBias, sum_rows]
  simp only [P.second, P.hid1_at]
  rfl

/-- The third layer of a prepared block. -/
theorem Prepared.lay3_at (P : Prepared p X l x0 x1 x2 x3 x4 x5 x6) (o : Fin 2048) :
    k1_pay12 (F := Ideal) (k1_pay8 x0) (k1_pay9 x0) (k1_pay10 x0) (k1_pay11 x0 x1 x2) x3 x4 x5 (ix2 o l) = lay3 p X o := by
  refine (pay12_at x0 (k1_pay11 x0 x1 x2) x3 x4 x5 o l).trans ?_
  simp only [P.third, P.thirdBias, P.hid2_at, mask_at, P.column]
  rfl

/-- The output of a prepared block. -/
theorem Prepared.out_at (P : Prepared p X l x0 x1 x2 x3 x4 x5 x6) (y : S2048x1024.Idx) (hy : (y 1).val = l.val) (a : Fin 32) (s : Fin 64)
    (hr : (y 0).val = a.val * 64 + s.val) : out1_7 x0 x1 x2 x3 x4 x5 x6 y = result p X a s := by
  rw [out_tile]
  have hl : (⟨(y 1).val, (y 1).isLt⟩ : Fin 1024) = l := Fin.ext hy
  rw [← blockSum_lay3, ← sum_tri (lay3 p X) a s ⟨(y 0).val % 256, by omega⟩ ⟨(y 0).val / 256, by omega⟩ (by simp only; omega) (by simp only; omega)]
  refine Finset.sum_congr rfl fun k _ => ?_
  rw [P.last]
  refine congrArg (fun z : EReal => tri _ k * z) ?_
  have e := P.lay3_at ⟨(y 0).val / 256 * 256 + k.val, by omega⟩
  rw [← hl] at e
  exact e

end Cert.KernelIdeal.Value
end
-- ==== Proof.Prep.lean ====
/- What the preparing kernel writes: the stacked first weights, the block-diagonal second weights, the third weights with
   the biases below them, and the 0/1 triangular factor, each at an index. -/
module

public import proofs.«01_k».proof.Proof.Gen.KernelIdeal.Frame
public import proofs.«01_k».proof.Proof.Equation
public import proofs.«01_k».proof.Proof.Words
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (x0 x1 x2 : Vec Ideal S64x769 .f32) (x3 x4 x5 : Vec Ideal S64x64 .f32) (x6 x7 x8 : Vec Ideal S64x2048 .f32)
  (x9 x10 x11 : Vec Ideal S1x2048 .f32)

/-- A value among three, chosen by a range. -/
def pick {α : Type} (u v w : α) : Fin 3 → α
  | 0 => u
  | 1 => v
  | 2 => w

/-- A function of a position among three runs of 64, read run by run. -/
theorem pick_of {α : Type} (u v w : Fin 64 → α) (r : α) (c : Fin 3) (j : Fin 64)
    (h0 : ∀ h : c.val * 64 + j.val < 64, r = u ⟨c.val * 64 + j.val, h⟩)
    (h1 : ¬ c.val * 64 + j.val < 64 → ∀ h : c.val * 64 + j.val - 64 < 64, r = v ⟨c.val * 64 + j.val - 64, h⟩)
    (h2 : ¬ c.val * 64 + j.val < 64 → ¬ c.val * 64 + j.val - 64 < 64 → ∀ h : c.val * 64 + j.val - 64 - 64 < 64, r = w ⟨c.val * 64 + j.val - 64 - 64, h⟩) :
    r = pick u v w c j := by
  have hj := j.isLt
  match c with
  | 0 =>
    refine (h0 (by show 0 * 64 + j.val < 64; omega)).trans (congrArg u (Fin.ext ?_))
    show 0 * 64 + j.val = j.val; omega
  | 1 =>
    refine (h1 (by show ¬ 1 * 64 + j.val < 64; omega) (by show 1 * 64 + j.val - 64 < 64; omega)).trans (congrArg v (Fin.ext ?_))
    show 1 * 64 + j.val - 64 = j.val; omega
  | 2 =>
    refine (h2 (by show ¬ 2 * 64 + j.val < 64; omega) (by show ¬ 2 * 64 + j.val - 64 < 64; omega) (by show 2 * 64 + j.val - 64 - 64 < 64; omega)).trans
      (congrArg w (Fin.ext ?_))
    show 2 * 64 + j.val - 64 - 64 = j.val; omega

/-- The prepared first weights: the three arrays one under the other. -/
theorem out12_at (c : Fin 3) (j : Fin 64) (i : Fin 769) :
    out0_12 x0 x1 x2 x3 x4 x5 x6 x7 x8 x9 x10 x11 (ix2 (row c j) i)
      = pick (fun j => x0 (ix2 j i)) (fun j => x1 (ix2 j i)) (fun j => x2 (ix2 j i)) c j := by
  frame_out
  pointwise [k0_pay2]
  refine pick_of _ _ _ _ c j (fun h => ?_) (fun h h' => ?_) (fun h h' h'' => ?_)
  · rw [dif_pos h]
  · rw [dif_neg h, dif_pos h']
  · rw [dif_neg h, dif_neg h']

/-- The prepared second weights: the three arrays down the diagonal, zero off it. -/
theorem out13_at (d c : Fin 3) (k j : Fin 64) :
    out0_13 x0 x1 x2 x3 x4 x5 x6 x7 x8 x9 x10 x11 (ix2 (row d k) (row c j))
      = if d = c then pick (fun k => x3 (ix2 k j)) (fun k => x4 (ix2 k j)) (fun k => x5 (ix2 k j)) d k else 0 := by
  have hk := k.isLt
  have hj := j.isLt
  have hd := d.isLt
  have hc := c.isLt
  frame_out
  pointwise [k0_pay3]
  by_cases e : d = c
  · subst e
    refine Eq.trans ?_ (if_pos rfl).symm
    refine pick_of _ _ _ _ d k (fun h => ?_) (fun h h' => ?_) (fun h h' h'' => ?_)
    · refine (dif_pos h).trans ((dif_pos (by omega)).trans ?_)
      exact congrArg (fun z => x3 (ix2 _ z)) (Fin.ext (by show d.val * 64 + j.val = j.val; omega))
    · refine (dif_neg h).trans ((dif_pos h').trans ((dif_neg (by omega)).trans ((dif_pos (by omega)).trans ?_)))
      exact congrArg (fun z => x4 (ix2 _ z)) (Fin.ext (by show d.val * 64 + j.val - 64 = j.val; omega))
    · refine (dif_neg h).trans ((dif_neg h').trans ((dif_neg (by omega)).trans ((dif_neg (by omega)).trans ?_)))
      exact congrArg (fun z => x5 (ix2 _ z)) (Fin.ext (by show d.val * 64 + j.val - 64 - 64 = j.val; omega))
  · have e' : d.val ≠ c.val := fun h => e (Fin.ext h)
    refine Eq.trans ?_ (if_neg e).symm
    split_ifs <;> first | rfl | (exfalso; omega)

/-- The prepared third weights: the three arrays one under the other. -/
theorem out14_at (c : Fin 3) (k : Fin 64) (o : Fin 2048) :
    out0_14 x0 x1 x2 x3 x4 x5 x6 x7 x8 x9 x10 x11 (ix2 (row3 c k) o)
      = pick (fun k => x6 (ix2 k o)) (fun k => x7 (ix2 k o)) (fun k => x8 (ix2 k o)) c k := by
  have hk := k.isLt
  have hc := c.isLt
  frame_out
  pointwise [k0_pay7]
  refine pick_of _ _ _ _ c k (fun h => ?_) (fun h h' => ?_) (fun h h' h'' => ?_)
  · rw [dif_pos h]
  · rw [dif_neg h, dif_pos h']
  · rw [dif_neg h, dif_neg h', dif_pos h'']

/-- The prepared third weights' bias rows. -/
theorem out14_bias (c : Fin 3) (o : Fin 2048) :
    out0_14 x0 x1 x2 x3 x4 x5 x6 x7 x8 x9 x10 x11 (ix2 (biasRow c) o) = pick (x9 (ix2 0 o)) (x10 (ix2 0 o)) (x11 (ix2 0 o)) c := by
  frame_out
  pointwise [k0_pay7, k0_pay4, k0_pay5, k0_pay6]
  match c with
  | 0 => rfl
  | 1 => rfl
  | 2 => rfl

/-- The prepared last factor: 1 where the two positions share their block of 64 and their places add up to at most 63. -/
theorem out15_at (j k : Fin 256) :
    out0_15 x0 x1 x2 x3 x4 x5 x6 x7 x8 x9 x10 x11 (ix2 j k) = tri j k := by
  frame_out
  have e : k0_pay1 (F := Ideal) (k0_pay12 (k0_pay14 x0 x1 x2 x3 x4 x5 x6 x7 x8 x9 x10 x11) k0_pay8 (64#32) k0_pay9 k0_pay10 k0_pay11)
      (k0_pay13 (iota Kind.tc S256x256 32 [0] iota_S256x256_d0_w32) (k0_pay14 x0 x1 x2 x3 x4 x5 x6 x7 x8 x9 x10 x11)) (ix2 j k)
      = FloatOps.sitofp (F := Ideal) .f32 (BitVec.setWidth 32 (IntOp.andi
          (IntOp.cmpi .eq (quoWord (BitVec.ofNat 32 j.val)) (quoWord (BitVec.ofNat 32 k.val)))
          (IntOp.cmpi .sle (IntOp.addi (remWord (BitVec.ofNat 32 j.val)) (remWord (BitVec.ofNat 32 k.val))) 63#32))) := by
    pointwise [k0_pay1, k0_pay12, k0_pay14, k0_pay8, k0_pay9, k0_pay10, k0_pay11, k0_pay13]
    rfl
  have ha : IntOp.addi (BitVec.ofNat 32 (j.val % 64)) (BitVec.ofNat 32 (k.val % 64)) = BitVec.ofNat 32 (j.val % 64 + k.val % 64) :=
    (BitVec.ofNat_add _ _).symm
  rw [e, quoWord_eq, quoWord_eq, remWord_eq, remWord_eq, ha, eqWord ⟨j.val / 64, by omega⟩ ⟨k.val / 64, by omega⟩,
    leWord ⟨j.val % 64 + k.val % 64, by omega⟩]
  exact bitFloat _ _

end Cert.KernelIdeal.Value
end
-- ==== Proof.Entry.lean ====
/- What the main kernel is given: its input blocks as blocks of the launch arrays, of the host's transposes and joined
   biases, and of the arrays that the preparing kernel wrote. -/
module

public import proofs.«01_k».proof.Proof.Tile
public import proofs.«01_k».proof.Proof.Prep
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (m : (ℓ : Loc nD τ sig) → Buf (Elt Ideal) ℓ) (ρ : Dev nD → PrngReg)

/-- The transposed inputs at the first region's entry. -/
theorem entry_x (c : Dev nD) :
    V1 m ρ c main_call0_v0 = transpose S769x8192 [1, 0] (m ((c : Thread nD τ).loc main_arg0)) transposes_S8192x769_S769x8192_1_0 := by
  unfold_abbrev_sides
  after_results
  rfl

/-- The first biases, joined, at the first region's entry. -/
theorem entry_b1 (c : Dev nD) :
    V1 m ρ c main_call0_v2 = shapeCast S192x1 (concatenate S192 0 [⟨S64, m ((c : Thread nD τ).loc main_arg2)⟩, ⟨S64, m ((c : Thread nD τ).loc main_arg8)⟩, ⟨S64, m ((c : Thread nD τ).loc main_arg14)⟩] concatenates_S64_S64_S64_S192_d0 : FVec Ideal S192 .f32) shapeCasts_S192_S192x1 := by
  unfold_abbrev_sides
  after_results
  rfl

/-- The second biases, joined, at the first region's entry. -/
theorem entry_b2 (c : Dev nD) :
    V1 m ρ c main_call0_v4 = shapeCast S192x1 (concatenate S192 0 [⟨S64, m ((c : Thread nD τ).loc main_arg4)⟩, ⟨S64, m ((c : Thread nD τ).loc main_arg10)⟩, ⟨S64, m ((c : Thread nD τ).loc main_arg16)⟩] concatenates_S64_S64_S64_S192_d0 : FVec Ideal S192 .f32) shapeCasts_S192_S192x1 := by
  unfold_abbrev_sides
  after_results
  rfl

/-- A network's first weights transposed, at the first region's entry. -/
theorem entry_w (c : Dev nD) :
    V1 m ρ c main_call0_v5 = transpose S64x769 [1, 0] (m ((c : Thread nD τ).loc main_arg1)) transposes_S769x64_S64x769_1_0
    ∧ V1 m ρ c main_call0_v6 = transpose S64x769 [1, 0] (m ((c : Thread nD τ).loc main_arg7)) transposes_S769x64_S64x769_1_0
    ∧ V1 m ρ c main_call0_v7 = transpose S64x769 [1, 0] (m ((c : Thread nD τ).loc main_arg13)) transposes_S769x64_S64x769_1_0 := by
  refine ⟨?_, ?_, ?_⟩ <;> (unfold_abbrev_sides; after_results; rfl)

/-- A network's third biases as a row, at the first region's entry. -/
theorem entry_b3 (c : Dev nD) :
    V1 m ρ c main_call0_v8 = shapeCast S1x2048 (m ((c : Thread nD τ).loc main_arg6) : FVec Ideal S2048 .f32) shapeCasts_S2048_S1x2048
    ∧ V1 m ρ c main_call0_v9 = shapeCast S1x2048 (m ((c : Thread nD τ).loc main_arg12) : FVec Ideal S2048 .f32) shapeCasts_S2048_S1x2048
    ∧ V1 m ρ c main_call0_v10 = shapeCast S1x2048 (m ((c : Thread nD τ).loc main_arg18) : FVec Ideal S2048 .f32) shapeCasts_S2048_S1x2048 := by
  refine ⟨?_, ?_, ?_⟩ <;> (unfold_abbrev_sides; after_results; rfl)

/-- The first region's inputs are taken whole: every block index is zero. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

set_option maxHeartbeats 1000000 in
/-- An input of the first region, read at its only point, is its array whole. -/
theorem blk0 (V : (c : Dev nD) → (b : Ref sig .tc) → Buf (Elt Ideal) ((c : Thread nD τ).loc b)) (c : Dev nD) :
    (iblk0 V c 0 t0_0 : Vec Ideal S64x769 .f32) = V c main_call0_v5 ∧ (iblk0 V c 1 t0_0 : Vec Ideal S64x769 .f32) = V c main_call0_v6
    ∧ (iblk0 V c 2 t0_0 : Vec Ideal S64x769 .f32) = V c main_call0_v7
    ∧ (iblk0 V c 3 t0_0 : Vec Ideal S64x64 .f32) = V c main_arg3 ∧ (iblk0 V c 4 t0_0 : Vec Ideal S64x64 .f32) = V c main_arg9
    ∧ (iblk0 V c 5 t0_0 : Vec Ideal S64x64 .f32) = V c main_arg15
    ∧ (iblk0 V c 6 t0_0 : Vec Ideal S64x2048 .f32) = V c main_arg5 ∧ (iblk0 V c 7 t0_0 : Vec Ideal S64x2048 .f32) = V c main_arg11
    ∧ (iblk0 V c 8 t0_0 : Vec Ideal S64x2048 .f32) = V c main_arg17
    ∧ (iblk0 V c 9 t0_0 : Vec Ideal S1x2048 .f32) = V c main_call0_v8 ∧ (iblk0 V c 10 t0_0 : Vec Ideal S1x2048 .f32) = V c main_call0_v9
    ∧ (iblk0 V c 11 t0_0 : Vec Ideal S1x2048 .f32) = V c main_call0_v10 := by
  refine ⟨?_, ?_, ?_, ?_, ?_, ?_, ?_, ?_, ?_, ?_, ?_, ?_⟩ <;> (funext i; blk_ext [iblk0, idx0 t0_0])

/-- The prepared first weights after the first region. -/
theorem arr12 (c : Dev nD) :
    V2 m ρ c main_call0_v11_0 = out0_12 (V1 m ρ c main_call0_v5) (V1 m ρ c main_call0_v6) (V1 m ρ c main_call0_v7)
      (V1 m ρ c main_arg3) (V1 m ρ c main_arg9) (V1 m ρ c main_arg15) (V1 m ρ c main_arg5) (V1 m ρ c main_arg11) (V1 m ρ c main_arg17)
      (V1 m ρ c main_call0_v8) (V1 m ρ c main_call0_v9) (V1 m ρ c main_call0_v10) := by
  refine (W2_arr m ρ c 12).trans (Dat.arrAt_eq_of_after_last _ 12 t0_0 (by decide +kernel) _ fun j => ?_)
  obtain ⟨h0, h1, h2, h3, h4, h5, h6, h7, h8, h9, h10, h11⟩ := blk0 (V1 m ρ) c
  blk_simp
  rw [after0_12, h0, h1, h2, h3, h4, h5, h6, h7, h8, h9, h10, h11]

/-- The prepared second weights after the first region. -/
theorem arr13 (c : Dev nD) :
    V2 m ρ c main_call0_v11_1 = out0_13 (V1 m ρ c main_call0_v5) (V1 m ρ c main_call0_v6) (V1 m ρ c main_call0_v7)
      (V1 m ρ c main_arg3) (V1 m ρ c main_arg9) (V1 m ρ c main_arg15) (V1 m ρ c main_arg5) (V1 m ρ c main_arg11) (V1 m ρ c main_arg17)
      (V1 m ρ c main_call0_v8) (V1 m ρ c main_call0_v9) (V1 m ρ c main_call0_v10) := by
  refine (W2_arr m ρ c 13).trans (Dat.arrAt_eq_of_after_last _ 13 t0_0 (by decide +kernel) _ fun j => ?_)
  obtain ⟨h0, h1, h2, h3, h4, h5, h6, h7, h8, h9, h10, h11⟩ := blk0 (V1 m ρ) c
  blk_simp
  rw [after0_13, h0, h1, h2, h3, h4, h5, h6, h7, h8, h9, h10, h11]

/-- The prepared third weights after the first region. -/
theorem arr14 (c : Dev nD) :
    V2 m ρ c main_call0_v11_2 = out0_14 (V1 m ρ c main_call0_v5) (V1 m ρ c main_call0_v6) (V1 m ρ c main_call0_v7)
      (V1 m ρ c main_arg3) (V1 m ρ c main_arg9) (V1 m ρ c main_arg15) (V1 m ρ c main_arg5) (V1 m ρ c main_arg11) (V1 m ρ c main_arg17)
      (V1 m ρ c main_call0_v8) (V1 m ρ c main_call0_v9) (V1 m ρ c main_call0_v10) := by
  refine (W2_arr m ρ c 14).trans (Dat.arrAt_eq_of_after_last _ 14 t0_0 (by decide +kernel) _ fun j => ?_)
  obtain ⟨h0, h1, h2, h3, h4, h5, h6, h7, h8, h9, h10, h11⟩ := blk0 (V1 m ρ) c
  blk_simp
  rw [after0_14, h0, h1, h2, h3, h4, h5, h6, h7, h8, h9, h10, h11]

/-- The prepared last factor after the first region. -/
theorem arr15 (c : Dev nD) :
    V2 m ρ c main_call0_v11_3 = out0_15 (V1 m ρ c main_call0_v5) (V1 m ρ c main_call0_v6) (V1 m ρ c main_call0_v7)
      (V1 m ρ c main_arg3) (V1 m ρ c main_arg9) (V1 m ρ c main_arg15) (V1 m ρ c main_arg5) (V1 m ρ c main_arg11) (V1 m ρ c main_arg17)
      (V1 m ρ c main_call0_v8) (V1 m ρ c main_call0_v9) (V1 m ρ c main_call0_v10) := by
  refine (W2_arr m ρ c 15).trans (Dat.arrAt_eq_of_after_last _ 15 t0_0 (by decide +kernel) _ fun j => ?_)
  obtain ⟨h0, h1, h2, h3, h4, h5, h6, h7, h8, h9, h10, h11⟩ := blk0 (V1 m ρ) c
  blk_simp
  rw [after0_15, h0, h1, h2, h3, h4, h5, h6, h7, h8, h9, h10, h11]

end Cert.KernelIdeal.Value
end
-- ==== Proof.Weights.lean ====
/- The prepared arrays in terms of the arguments: every entry of the stacked weights and biases is an entry of one of the
   three nets, or zero, as the grid step's computation needs it. -/
module

public import proofs.«01_k».proof.Proof.Entry

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

/-- A network's parameters read off its six arrays. -/
def net (w1 : FVec Ideal S769x64 .f32) (b1 : FVec Ideal S64 .f32) (w2 : FVec Ideal S64x64 .f32)
    (b2 : FVec Ideal S64 .f32) (w3 : FVec Ideal S64x2048 .f32) (b3 : FVec Ideal S2048 .f32) : Net where
  w1 k j := w1 (ix2 k j)
  b1 j := b1 (ix1 j)
  w2 k j := w2 (ix2 k j)
  b2 j := b2 (ix1 j)
  w3 k j := w3 (ix2 k j)
  b3 j := b3 (ix1 j)

variable (m : (ℓ : Loc nD τ sig) → Buf (Elt Ideal) ℓ) (ρ : Dev nD → PrngReg)

/-- The three networks of the launch arguments. -/
def nets (c : Dev nD) : Fin 3 → Net
  | 0 => net (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
  | 1 => net (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
  | 2 => net (m ((c : Thread nD τ).loc main_arg13)) (m ((c : Thread nD τ).loc main_arg14)) (m ((c : Thread nD τ).loc main_arg15))
      (m ((c : Thread nD τ).loc main_arg16)) (m ((c : Thread nD τ).loc main_arg17)) (m ((c : Thread nD τ).loc main_arg18))

/-- The transposed inputs at the second region's entry, at an index. -/
theorem x_at (c : Dev nD) (i : Fin 769) (n : Fin 8192) :
    (V2 m ρ c main_call0_v0 : FVec Ideal S769x8192 .f32) (ix2 i n) = (m ((c : Thread nD τ).loc main_arg0) : FVec Ideal S8192x769 .f32) (ix2 n i) := by
  refine (congrFun ((W2_of_ne m ρ c main_call0_v0 (by decide)).trans (entry_x m ρ c)) (ix2 i n)).trans ?_
  pointwise

/-- Three arrays of 64 joined and made a column, at a row. -/
theorem joined_at (u v w : FVec Ideal S64 .f32) (d : Fin 3) (j : Fin 64) :
    shapeCast S192x1 (concatenate S192 0 [⟨S64, u⟩, ⟨S64, v⟩, ⟨S64, w⟩] concatenates_S64_S64_S64_S192_d0 : FVec Ideal S192 .f32) shapeCasts_S192_S192x1 (ix2 (row d j) 0)
      = pick (fun j => u (ix1 j)) (fun j => v (ix1 j)) (fun j => w (ix1 j)) d j := by
  pointwise
  refine pick_of _ _ _ _ d j (fun h => ?_) (fun h h' => ?_) (fun h h' h'' => ?_)
  · exact dif_pos h
  · exact (dif_neg h).trans (dif_pos h')
  · exact (dif_neg h).trans (dif_neg h')

/-- First weights transposed, at an index. -/
theorem turned_at (w : FVec Ideal S769x64 .f32) (j : Fin 64) (i : Fin 769) :
    transpose S64x769 [1, 0] w transposes_S769x64_S64x769_1_0 (ix2 j i) = w (ix2 i j) := by
  pointwise

/-- Third biases as a row, at an index. -/
theorem asRow_at (v : FVec Ideal S2048 .f32) (o : Fin 2048) : shapeCast S1x2048 v shapeCasts_S2048_S1x2048 (ix2 0 o) = v (ix1 o) := by
  pointwise

/-- The first biases at the second region's entry. -/
theorem b1_at (c : Dev nD) (d : Fin 3) (j : Fin 64) :
    (V2 m ρ c main_call0_v2 : FVec Ideal S192x1 .f32) (ix2 (row d j) 0) = (nets m c d).b1 j := by
  refine (congrFun ((W2_of_ne m ρ c main_call0_v2 (by decide)).trans (entry_b1 m ρ c)) (ix2 (row d j) 0)).trans ((joined_at _ _ _ d j).trans ?_)
  match d with
  | 0 => rfl
  | 1 => rfl
  | 2 => rfl

/-- The second biases at the second region's entry. -/
theorem b2_at (c : Dev nD) (d : Fin 3) (j : Fin 64) :
    (V2 m ρ c main_call0_v4 : FVec Ideal S192x1 .f32) (ix2 (row d j) 0) = (nets m c d).b2 j := by
  refine (congrFun ((W2_of_ne m ρ c main_call0_v4 (by decide)).trans (entry_b2 m ρ c)) (ix2 (row d j) 0)).trans ((joined_at _ _ _ d j).trans ?_)
  match d with
  | 0 => rfl
  | 1 => rfl
  | 2 => rfl

/-- The prepared first weights at an index. -/
theorem w1_at (c : Dev nD) (d : Fin 3) (j : Fin 64) (i : Fin 769) :
    (V2 m ρ c main_call0_v11_0 : FVec Ideal S192x769 .bf16) (ix2 (row d j) i) = (nets m c d).w1 i j := by
  obtain ⟨e0, e1, e2⟩ := entry_w m ρ c
  refine (congrFun (arr12 m ρ c) (ix2 (row d j) i)).trans ((out12_at _ _ _ _ _ _ _ _ _ _ _ _ d j i).trans ?_)
  rw [e0, e1, e2]
  match d with
  | 0 =>
    exact turned_at _ j i
  | 1 =>
    exact turned_at _ j i
  | 2 =>
    exact turned_at _ j i

/-- The prepared second weights at an index. -/
theorem w2_at (c : Dev nD) (d e : Fin 3) (k j : Fin 64) :
    (V2 m ρ c main_call0_v11_1 : FVec Ideal S192x192 .bf16) (ix2 (row d k) (row e j)) = if d = e then (nets m c d).w2 k j else (0 : EReal) := by
  refine (congrFun (arr13 m ρ c) (ix2 (row d k) (row e j))).trans ((out13_at _ _ _ _ _ _ _ _ _ _ _ _ d e k j).trans ?_)
  have e0 : V1 m ρ c main_arg3 = m ((c : Thread nD τ).loc main_arg3) := W1_args m ρ c main_arg3 (by decide)
  have e1 : V1 m ρ c main_arg9 = m ((c : Thread nD τ).loc main_arg9) := W1_args m ρ c main_arg9 (by decide)
  have e2 : V1 m ρ c main_arg15 = m ((c : Thread nD τ).loc main_arg15) := W1_args m ρ c main_arg15 (by decide)
  rw [e0, e1, e2]
  refine if_congr Iff.rfl ?_ rfl
  match d with
  | 0 => rfl
  | 1 => rfl
  | 2 => rfl

/-- The prepared third weights at an index. -/
theorem w3_at (c : Dev nD) (d : Fin 3) (k : Fin 64) (o : Fin 2048) :
    (V2 m ρ c main_call0_v11_2 : FVec Ideal S256x2048 .bf16) (ix2 (row3 d k) o) = (nets m c d).w3 k o := by
  refine (congrFun (arr14 m ρ c) (ix2 (row3 d k) o)).trans ((out14_at _ _ _ _ _ _ _ _ _ _ _ _ d k o).trans ?_)
  have e0 : V1 m ρ c main_arg5 = m ((c : Thread nD τ).loc main_arg5) := W1_args m ρ c main_arg5 (by decide)
  have e1 : V1 m ρ c main_arg11 = m ((c : Thread nD τ).loc main_arg11) := W1_args m ρ c main_arg11 (by decide)
  have e2 : V1 m ρ c main_arg17 = m ((c : Thread nD τ).loc main_arg17) := W1_args m ρ c main_arg17 (by decide)
  rw [e0, e1, e2]
  match d with
  | 0 => rfl
  | 1 => rfl
  | 2 => rfl

/-- The prepared third weights' bias rows at an index. -/
theorem b3_at (c : Dev nD) (d : Fin 3) (o : Fin 2048) :
    (V2 m ρ c main_call0_v11_2 : FVec Ideal S256x2048 .bf16) (ix2 (biasRow d) o) = (nets m c d).b3 o := by
  obtain ⟨e0, e1, e2⟩ := entry_b3 m ρ c
  refine (congrFun (arr14 m ρ c) (ix2 (biasRow d) o)).trans ((out14_bias _ _ _ _ _ _ _ _ _ _ _ _ d o).trans ?_)
  rw [e0, e1, e2]
  match d with
  | 0 =>
    exact asRow_at _ o
  | 1 =>
    exact asRow_at _ o
  | 2 =>
    exact asRow_at _ o

/-- The prepared last factor at an index. -/
theorem last_at (c : Dev nD) (j k : Fin 256) :
    (V2 m ρ c main_call0_v11_3 : FVec Ideal S256x256 .bf16) (ix2 j k) = tri j k :=
  (congrFun (arr15 m ρ c) (ix2 j k)).trans (out15_at _ _ _ _ _ _ _ _ _ _ _ _ j k)

/-- The second region's block indices: the inputs and the result move along the columns, the weights stay. -/
theorem idx1 : ∀ t : Fin cfg1.N, win1_0.index t = ![0, t.val] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, t.val] :=
  (by decide +kernel : ∀ t : Fin grid1.N, _)

set_option maxHeartbeats 1000000 in
/-- The second region's inputs at a point are a prepared block, for each of its columns. -/
theorem prepared (c : Dev nD) (t : Fin cfg1.N) (l : Fin 1024) (n : Fin 8192) (hn : n.val = t.val * 1024 + l.val) :
    Prepared (nets m c) (fun i => (m ((c : Thread nD τ).loc main_arg0) : FVec Ideal S8192x769 .f32) (ix2 n i)) l
      (iblk1 (V2 m ρ) c 0 t) (iblk1 (V2 m ρ) c 1 t) (iblk1 (V2 m ρ) c 2 t) (iblk1 (V2 m ρ) c 3 t) (iblk1 (V2 m ρ) c 4 t)
      (iblk1 (V2 m ρ) c 5 t) (iblk1 (V2 m ρ) c 6 t) where
  column i := by refine Eq.trans ?_ (x_at m ρ c i n); blk_ext [iblk1, idx1 t]
  first d j i := by refine Eq.trans ?_ (w1_at m ρ c d j i); blk_ext [iblk1, idx1 t]
  firstBias d j := by refine Eq.trans ?_ (b1_at m ρ c d j); blk_ext [iblk1, idx1 t]
  second d k e j := by refine Eq.trans ?_ (w2_at m ρ c d e k j); blk_ext [iblk1, idx1 t]
  secondBias d j := by refine Eq.trans ?_ (b2_at m ρ c d j); blk_ext [iblk1, idx1 t]
  third d k o := by refine Eq.trans ?_ (w3_at m ρ c d k o); blk_ext [iblk1, idx1 t]
  thirdBias d o := by refine Eq.trans ?_ (b3_at m ρ c d o); blk_ext [iblk1, idx1 t]
  last j k := by refine Eq.trans ?_ (last_at m ρ c j k); blk_ext [iblk1, idx1 t]

end Cert.KernelIdeal.Value
end
-- ==== Proof.Result.lean ====
/- The kernel's result array at an index: the blocks that the grid steps write cover the array, and the host's reshape and
   transpose after it move each entry to its place. -/
module

public import proofs.«01_k».proof.Proof.Weights

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (m : (ℓ : Loc nD τ sig) → Buf (Elt Ideal) ℓ) (ρ : Dev nD → PrngReg)

/-- What the second region leaves in its result: for each row of inputs, a column of block sums. -/
def columns (c : Dev nD) : FVec Ideal S2048x8192 .f32 := fun i =>
  result (nets m c) (fun k => (m ((c : Thread nD τ).loc main_arg0) : FVec Ideal S8192x769 .f32) (ix2 ⟨(i 1).val, (i 1).isLt⟩ k))
    ⟨(i 0).val / 64, by have := (i 0).isLt; simp at this; omega⟩ ⟨(i 0).val % 64, by omega⟩

/-- The second region's result array. -/
theorem final (c : Dev nD) : (dat1 (V2 m ρ) c).arrAt 7 cfg1.N = columns m c := by
  refine (dat1 (V2 m ρ) c).arrAt_eq_of_covers 7 _ (by decide +kernel) fun t hf y => ?_
  blk_simp
  rw [after1_7]
  have ht : t.val < 8 := lt_of_lt_of_eq t.isLt N_1
  have hy0 : (y 0).val < 2048 := (y 0).isLt
  have hy1 : (y 1).val < 1024 := (y 1).isLt
  refine ((prepared m ρ c t ⟨(y 1).val, hy1⟩ ⟨t.val * 1024 + (y 1).val, by omega⟩ rfl).out_at y rfl ⟨(y 0).val / 64, by omega⟩ ⟨(y 0).val % 64, by omega⟩
    (by show (y 0).val = (y 0).val / 64 * 64 + (y 0).val % 64; omega)).trans ?_
  unfold columns
  blk_simp [idx1 t]

/-- THE KERNEL'S RESULT at an index. -/
theorem result_at (c : Dev nD) (n : Fin 8192) (a : Fin 32) (s : Fin 64) :
    (W4 m ρ c (Proc.devRef .tc main_v0) : FVec Ideal S8192x32x64 .f32) (ix3 n a s)
      = result (nets m c) (fun k => (m ((c : Thread nD τ).loc main_arg0) : FVec Ideal S8192x769 .f32) (ix2 n k)) a s := by
  have e : W4 m ρ c (Proc.devRef .tc main_v0)
      = transpose S8192x32x64 [2, 0, 1] (shapeCast S32x64x8192 (W3 m ρ c (Proc.devRef .tc main_call0_v12) : FVec Ideal S2048x8192 .f32) shapeCasts_S2048x8192_S32x64x8192) transposes_S32x64x8192_S8192x32x64_2_0_1 := by
    unfold_abbrev_sides
    after_results
    rfl
  rw [e, (W3_arr m ρ c 7).trans (final m ρ c)]
  pointwise
  unfold columns
  have ea : (⟨(a.val * 64 + s.val) / 64, by omega⟩ : Fin 32) = a := Fin.ext (by show (a.val * 64 + s.val) / 64 = a.val; omega)
  have es : (⟨(a.val * 64 + s.val) % 64, by omega⟩ : Fin 64) = s := Fin.ext (by show (a.val * 64 + s.val) % 64 = s.val; omega)
  exact congrArg₂ (result (nets m c) fun k => (m ((c : Thread nD τ).loc main_arg0) : FVec Ideal S8192x769 .f32) (ix2 n k)) ea es

end Cert.KernelIdeal.Value
end
-- ==== Proof.RunningSum.lean ====
/- A host window sum over the last axis of a rank-3 array, its window as long as the axis and padded low by one less:
   the running sum along that axis. Read at mirrored positions it is the block sum of `Spec`. -/
module

public import proofs.«01_k».proof.Proof.Spec
public import Idealize.ShloMosaic.Lib.Pointwise

@[expose] public section

set_option maxRecDepth 16384

noncomputable section

namespace Cert.Spec

open Idealize.ShloMosaic

/-- Adding up a list from the left is adding the list's sum to the start. -/
theorem foldl_add_eq {ι : Type} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- The window sum at an index: the entries at or before it. -/
theorem windowSum_at {A B : Nat} (z : FVec Ideal (⟨3, ![A, B, 64]⟩ : Shape) .f32) (init : FVec Ideal (⟨0, ![]⟩ : Shape) .f32)
    (hinit : ∀ i, init i = (0 : EReal))
    (h : (⟨3, ![A, B, 64]⟩ : Shape).ReduceWindows (![1, 1, 64] : Fin 3 → Nat) ![1, 1, 1] ![0, 0, 63] ![0, 0, 0] (⟨3, ![A, B, 64]⟩ : Shape))
    (hu : 0 < (⟨0, ![]⟩ : Shape).numel) (n : Fin A) (a : Fin B) (s : Fin 64) :
    Host.reduceWindowAdd (F := Ideal) ![1, 1, 64] ![1, 1, 1] ![0, 0, 63] ![0, 0, 0] z init h hu (ix3 n a s)
      = ∑ k : Fin 64, if hk : 63 ≤ s.val + k.val then (z (ix3 n a ⟨s.val + k.val - 63, by omega⟩) : EReal) else 0 := by
  show Host.reduceWindow (fun x y : EReal => x + y) (![1, 1, 64] : Fin 3 → Nat) ![1, 1, 1] ![0, 0, 63] ![0, 0, 0] z
    (fun _ : (⟨0, ![]⟩ : Shape).Idx => init (Shape.Idx.first hu)) h hu (ix3 n a s) = _
  unfold Host.reduceWindow
  dsimp only
  rw [foldl_add_eq, hinit, zero_add, ← List.ofFn_eq_map, List.sum_ofFn]
  refine (Finset.sum_congr rfl fun i _ => ?_).trans ((Equiv.sum_comp (Shape.rowMajor (⟨3, ![1, 1, 64]⟩ : Shape)).symm
    (fun w : (⟨3, ![1, 1, 64]⟩ : Shape).Idx => if hk : 63 ≤ s.val + (w 2).val then
      (z (ix3 n a ⟨s.val + (w 2).val - 63, by have : (w 2).val < 64 := (w 2).isLt; omega⟩) : EReal) else 0)).trans ?_)
  · have hs := s.isLt
    have h0 : ((Shape.rowMajor (⟨3, ![1, 1, 64]⟩ : Shape)).symm i 0).val < 1 := ((Shape.rowMajor (⟨3, ![1, 1, 64]⟩ : Shape)).symm i 0).isLt
    have h1 : ((Shape.rowMajor (⟨3, ![1, 1, 64]⟩ : Shape)).symm i 1).val < 1 := ((Shape.rowMajor (⟨3, ![1, 1, 64]⟩ : Shape)).symm i 1).isLt
    have h2 : ((Shape.rowMajor (⟨3, ![1, 1, 64]⟩ : Shape)).symm i 2).val < 64 := ((Shape.rowMajor (⟨3, ![1, 1, 64]⟩ : Shape)).symm i 2).isLt
    by_cases hc : 63 ≤ s.val + ((Shape.rowMajor (⟨3, ![1, 1, 64]⟩ : Shape)).symm i 2).val
    · rw [dif_pos hc, dif_pos]
      · refine congrArg z (funext fun q => Fin.ext ?_)
        match q with
        | ⟨0, _⟩ => show n.val * 1 + ((Shape.rowMajor (⟨3, ![1, 1, 64]⟩ : Shape)).symm i 0).val - 0 = n.val; omega
        | ⟨1, _⟩ => show a.val * 1 + ((Shape.rowMajor (⟨3, ![1, 1, 64]⟩ : Shape)).symm i 1).val - 0 = a.val; omega
        | ⟨2, _⟩ => show s.val * 1 + ((Shape.rowMajor (⟨3, ![1, 1, 64]⟩ : Shape)).symm i 2).val - 63 = s.val + ((Shape.rowMajor (⟨3, ![1, 1, 64]⟩ : Shape)).symm i 2).val - 63; omega
      · intro q
        match q with
        | ⟨0, _⟩ => exact ⟨Nat.zero_le _, by show n.val * 1 + ((Shape.rowMajor (⟨3, ![1, 1, 64]⟩ : Shape)).symm i 0).val - 0 < A; omega⟩
        | ⟨1, _⟩ => exact ⟨Nat.zero_le _, by show a.val * 1 + ((Shape.rowMajor (⟨3, ![1, 1, 64]⟩ : Shape)).symm i 1).val - 0 < B; omega⟩
        | ⟨2, _⟩ => exact ⟨by show 63 ≤ s.val * 1 + ((Shape.rowMajor (⟨3, ![1, 1, 64]⟩ : Shape)).symm i 2).val; omega, by show s.val * 1 + ((Shape.rowMajor (⟨3, ![1, 1, 64]⟩ : Shape)).symm i 2).val - 63 < 64; omega⟩
    · rw [dif_neg hc, dif_neg fun hin => hc (by have := (hin 2).1; change 63 ≤ s.val * 1 + ((Shape.rowMajor (⟨3, ![1, 1, 64]⟩ : Shape)).symm i 2).val at this; omega)]
  · rw [sum_idx3]
    simp only [Fin.sum_univ_one, Fin.isValue]
    rfl

/-- The entries at or before the mirror of `s`, summed over a window that ends there, are the entries `k` with `k + s ≤ 63`. -/
theorem sum_mirror (g : Fin 64 → EReal) (s : Fin 64) :
    (∑ k : Fin 64, if hk : 63 ≤ s.rev.val + k.val then g ⟨s.rev.val + k.val - 63, by omega⟩ else 0)
      = ∑ k : Fin 64, if k.val + s.val ≤ 63 then g k else 0 := by
  have hs := s.isLt
  have hr : s.rev.val = 63 - s.val := by rw [Fin.val_rev]; omega
  have e : ∀ k : Fin 64, (if hk : 63 ≤ s.rev.val + k.val then g ⟨s.rev.val + k.val - 63, by omega⟩ else 0)
      = if s.val ≤ k.val then g ⟨k.val - s.val, by omega⟩ else 0 := fun k => by
    by_cases hc : s.val ≤ k.val
    · rw [dif_pos (by omega), if_pos hc]
      exact congrArg g (Fin.ext (by show s.rev.val + k.val - 63 = k.val - s.val; omega))
    · rw [dif_neg (by omega), if_neg hc]
  rw [Finset.sum_congr rfl fun k _ => e k, ← Finset.sum_filter, ← Finset.sum_filter]
  refine Finset.sum_bij' (fun k _ => ⟨k.val - s.val, by omega⟩) (fun k hk => ⟨k.val + s.val, by
      have := (Finset.mem_filter.mp hk).2; omega⟩) ?_ ?_ ?_ ?_ ?_
  · intro k hk
    have := (Finset.mem_filter.mp hk).2
    exact Finset.mem_filter.mpr ⟨Finset.mem_univ _, by show k.val - s.val + s.val ≤ 63; omega⟩
  · intro k hk
    exact Finset.mem_filter.mpr ⟨Finset.mem_univ _, by show s.val ≤ k.val + s.val; omega⟩
  · intro k hk
    have := (Finset.mem_filter.mp hk).2
    exact Fin.ext (by show k.val - s.val + s.val = k.val; omega)
  · intro k hk
    exact Fin.ext (by show k.val + s.val - s.val = k.val; omega)
  · intro k hk
    rfl

end Cert.Spec

end
-- ==== Proof.RefValue.lean ====
/- The reference's result at an index. -/
module

public import proofs.«01_k».proof.Proof.Gen.ReferenceIdeal.Run
public import proofs.«01_k».proof.Proof.RunningSum
public import Idealize.ShloMosaic.Lib.Pointwise
public import Idealize.ShloMosaic.Lib.IdealHost

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Spec

/-- One network's 2048 outputs for every row, as the reference computes them. -/
def netArr (x : FVec Ideal S8192x769 .f32) (w1 : FVec Ideal S769x64 .f32) (b1 : FVec Ideal S64 .f32) (w2 : FVec Ideal S64x64 .f32)
    (b2 : FVec Ideal S64 .f32) (w3 : FVec Ideal S64x2048 .f32) (b3 : FVec Ideal S2048 .f32) : FVec Ideal S8192x2048 .f32 :=
  maximumf (addf (Host.dotGeneral dot_S8192x64_S64x2048_S8192x2048_1_0_0_1_n_n none (maximumf (addf (Host.dotGeneral dot_S8192x64_S64x64_S8192x64_1_0_0_1_n_n none (maximumf (addf (Host.dotGeneral dot_S8192x769_S769x64_S8192x64_1_0_0_1_n_n none x w1) (broadcastInDim S8192x64 ![0, 1] bcast_S1x64_S8192x64_0_1 (broadcastInDim S1x64 ![1] bcast_S64_S1x64_1 b1))) (broadcastInDim S8192x64 ![] bcast_S_S8192x64 (constant S_ .f32 0x00000000#32))) w2) (broadcastInDim S8192x64 ![0, 1] bcast_S1x64_S8192x64_0_1 (broadcastInDim S1x64 ![1] bcast_S64_S1x64_1 b2))) (broadcastInDim S8192x64 ![] bcast_S_S8192x64 (constant S_ .f32 0x00000000#32))) w3) (broadcastInDim S8192x2048 ![0, 1] bcast_S1x2048_S8192x2048_0_1 (broadcastInDim S1x2048 ![1] bcast_S2048_S1x2048_1 b3))) (broadcastInDim S8192x2048 ![] bcast_S_S8192x2048 (constant S_ .f32 0x00000000#32))

/-- The running sums of blocks of 64, read backwards. -/
def sumsArr (y : FVec Ideal S8192x2048 .f32) : FVec Ideal S8192x32x64 .f32 :=
  Host.reverse [2] (Host.reduceWindowAdd ![1, 1, 64] ![1, 1, 1] ![0, 0, 63] ![0, 0, 0] (shapeCast _ y shapeCasts_S8192x2048_S8192x32x64) (broadcastInDim S_ ![] bcast_S_S_ (constant S_ .f32 0x00000000#32)) reduceWindows_S8192x32x64_S8192x32x64_w1s1p0_0_w1s1p0_0_w64s1p63_0 h_S_)

/-- Which rows' last column lies in a range, as the reference computes it. -/
def lastCol (x : FVec Ideal S8192x769 .f32) : FVec Ideal S8192 .f32 :=
  shapeCast _ (extractStridedSlice S8192x1 ![0, 768] x slices_S8192x769_S8192x1_0_768) shapeCasts_S8192x1_S8192

/-- Rows chosen by a mask, the others 0. -/
def pick (k : IVec S8192 1) (y : FVec Ideal S8192x32x64 .f32) : FVec Ideal S8192x32x64 .f32 :=
  select (broadcastInDim S8192x32x64 ![0, 1, 2] bcast_S8192x1x1_S8192x32x64_0_1_2 (broadcastInDim S8192x1x1 ![0] bcast_S8192_S8192x1x1_0 k)) y (broadcastInDim S8192x32x64 ![] bcast_S_S8192x32x64 (constant S_ .f32 0x00000000#32))

/-- A row's last column at least one constant and below another. -/
def maskLt (x : FVec Ideal S8192x769 .f32) (lo hi : BitVec 32) : IVec S8192 1 :=
  andi (cmpf .oge (lastCol x) (broadcastInDim S8192 ![] bcast_S_S8192 (constant S_ .f32 lo))) (cmpf .olt (lastCol x) (broadcastInDim S8192 ![] bcast_S_S8192 (constant S_ .f32 hi)))

/-- A row's last column at least one constant and at most another. -/
def maskLe (x : FVec Ideal S8192x769 .f32) (lo hi : BitVec 32) : IVec S8192 1 :=
  andi (cmpf .oge (lastCol x) (broadcastInDim S8192 ![] bcast_S_S8192 (constant S_ .f32 lo))) (cmpf .ole (lastCol x) (broadcastInDim S8192 ![] bcast_S_S8192 (constant S_ .f32 hi)))

variable (m : (ℓ : Loc nD τ sig) → Buf (Elt Ideal) ℓ) (c : Dev nD)

/-- The result of the reference, its three networks apart. -/
theorem res_eq : res_out0 m c =
    addf (addf
      (pick (maskLt (m ((c.tc : Thread nD τ).loc main_arg0)) 0x00000000#32 0x3F000000#32) (sumsArr (netArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))))
      (pick (maskLt (m ((c.tc : Thread nD τ).loc main_arg0)) 0x3F000000#32 0x3F400000#32) (sumsArr (netArr (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))))))
      (pick (maskLe (m ((c.tc : Thread nD τ).loc main_arg0)) 0x3F400000#32 0x3F800000#32) (sumsArr (netArr (m ((c.tc : Thread nD τ).loc main_arg0)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))))) :=
  rfl

/-- A network's parameters read off its six arrays. -/
def net (w1 : FVec Ideal S769x64 .f32) (b1 : FVec Ideal S64 .f32) (w2 : FVec Ideal S64x64 .f32)
    (b2 : FVec Ideal S64 .f32) (w3 : FVec Ideal S64x2048 .f32) (b3 : FVec Ideal S2048 .f32) : Net where
  w1 k j := w1 (ix2 k j)
  b1 j := b1 (ix1 j)
  w2 k j := w2 (ix2 k j)
  b2 j := b2 (ix1 j)
  w3 k j := w3 (ix2 k j)
  b3 j := b3 (ix1 j)

/-- A network's outputs at a row. -/
theorem netArr_at (x : FVec Ideal S8192x769 .f32) (w1 : FVec Ideal S769x64 .f32) (b1 : FVec Ideal S64 .f32) (w2 : FVec Ideal S64x64 .f32)
    (b2 : FVec Ideal S64 .f32) (w3 : FVec Ideal S64x2048 .f32) (b3 : FVec Ideal S2048 .f32) (n : Fin 8192) (j : Fin 2048) :
    netArr x w1 b1 w2 b2 w3 b3 (ix2 n j) = (net w1 b1 w2 b2 w3 b3).out (fun k => x (ix2 n k)) j := by
  pointwise [netArr]
  rfl

open Classical in
/-- An array picked where the last column is at least one constant and below another, at an index. -/
theorem pickLt_at (x : FVec Ideal S8192x769 .f32) (lo hi : BitVec 32) (y : FVec Ideal S8192x32x64 .f32) (n : Fin 8192) (a : Fin 32) (s : Fin 64) :
    pick (maskLt x lo hi) y (ix3 n a s)
      = if Ideal.ofBits .f32 lo ≤ x (ix2 n 768) ∧ x (ix2 n 768) < Ideal.ofBits .f32 hi then y (ix3 n a s) else (0 : EReal) := by
  pointwise [pick, maskLt, lastCol]
  exact select_and ..

open Classical in
/-- An array picked where the last column is at least one constant and at most another, at an index. -/
theorem pickLe_at (x : FVec Ideal S8192x769 .f32) (lo hi : BitVec 32) (y : FVec Ideal S8192x32x64 .f32) (n : Fin 8192) (a : Fin 32) (s : Fin 64) :
    pick (maskLe x lo hi) y (ix3 n a s)
      = if Ideal.ofBits .f32 lo ≤ x (ix2 n 768) ∧ x (ix2 n 768) ≤ Ideal.ofBits .f32 hi then y (ix3 n a s) else (0 : EReal) := by
  pointwise [pick, maskLe, lastCol]
  exact select_and ..

/-- The reversed running sums of a row are its block sums. -/
theorem sums_at (y : FVec Ideal S8192x2048 .f32) (n : Fin 8192) (a : Fin 32) (s : Fin 64) :
    sumsArr y (ix3 n a s) = blockSum (fun j => y (ix2 n j)) a s := by
  have hrev : ∀ z : FVec Ideal S8192x32x64 .f32, Host.reverse [2] z (ix3 n a s) = z (ix3 n a s.rev) := fun z =>
    congrArg z (funext fun q => by
      match q with
      | ⟨0, _⟩ => rfl
      | ⟨1, _⟩ => rfl
      | ⟨2, _⟩ => rfl)
  refine (hrev _).trans ((windowSum_at _ _ (fun i => by pointwise) _ _ n a s.rev).trans ?_)
  refine Eq.trans (Finset.sum_congr rfl fun k _ => dite_congr rfl (fun hk => ?_) fun _ => rfl) (sum_mirror (fun k => y (ix2 n (pos a k))) s)
  pointwise

/-- Network `c`'s parameters, read off the launch memory's argument arrays. -/
def nets : Fin 3 → Net
  | 0 => net (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
  | 1 => net (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  | 2 => net (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

open Classical in
/-- THE REFERENCE'S RESULT at an index. -/
theorem res_at (n : Fin 8192) (a : Fin 32) (s : Fin 64) :
    res_out0 m c (ix3 n a s)
      = result (nets m c) (fun k => (m ((c.tc : Thread nD τ).loc main_arg0) : FVec Ideal S8192x769 .f32) (ix2 n k)) a s := by
  rw [res_eq]
  refine (congrArg₂ (· + ·) (congrArg₂ (· + ·) (pickLt_at _ _ _ _ n a s) (pickLt_at _ _ _ _ n a s)) (pickLe_at _ _ _ _ n a s)).trans ?_
  simp only [sums_at, netArr_at, Ideal.ofBits_zero_f32, Ideal.ofBits_one_f32]
  unfold result
  rw [Fin.sum_univ_three]
  exact congrArg₂ (· + ·) (congrArg₂ (· + ·) (if_congr Iff.rfl rfl rfl) (if_congr Iff.rfl rfl rfl)) (if_congr Iff.rfl rfl rfl)

end Cert.ReferenceIdeal.Value

end
-- ==== Proof.Agree.lean ====
/- The kernel's result array and the reference's, from launch memories that agree on the arguments, are the same array. -/
module

public import proofs.«01_k».proof.Proof.Result
public import proofs.«01_k».proof.Proof.RefValue

@[expose] public section

set_option maxRecDepth 16384

noncomputable section

namespace Cert.Agree

open Idealize.ShloMosaic Idealize.SL.Sem Cert.Spec

/-- The two programs' arguments, at one core, hold the same arrays. -/
abbrev SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The same arguments give the same three networks. -/
theorem nets_eq (h : SameArgs m m' c) : Cert.ReferenceIdeal.Value.nets m' c = Cert.KernelIdeal.Value.nets m c := by
  obtain ⟨h0, h1, h2, h3, h4, h5, h6, h7, h8, h9, h10, h11, h12, h13, h14, h15, h16, h17, h18⟩ := h
  funext d
  match d with
  | 0 =>
    show Cert.ReferenceIdeal.Value.net _ _ _ _ _ _ = _
    rw [h1, h2, h3, h4, h5, h6]
    rfl
  | 1 =>
    show Cert.ReferenceIdeal.Value.net _ _ _ _ _ _ = _
    rw [h7, h8, h9, h10, h11, h12]
    rfl
  | 2 =>
    show Cert.ReferenceIdeal.Value.net _ _ _ _ _ _ = _
    rw [h13, h14, h15, h16, h17, h18]
    rfl

/-- THE EQUATION: the reference's result array is the kernel's. -/
theorem result_eq (h : SameArgs m m' c) (ρ : Dev Cert.KernelIdeal.nD → PrngReg) :
    (Cert.ReferenceIdeal.Value.res_out0 m' c : FVec Ideal Cert.KernelIdeal.S8192x32x64 .f32)
      = Cert.KernelIdeal.Gen.W4 m ρ c (Proc.devRef .tc Cert.KernelIdeal.main_v0) := by
  funext i
  have e : ix3 (i 0) (i 1) (i 2) = i := funext fun q => by
    match q with
    | ⟨0, _⟩ => rfl
    | ⟨1, _⟩ => rfl
    | ⟨2, _⟩ => rfl
  rw [← e]
  refine (Cert.ReferenceIdeal.Value.res_at m' c (i 0) (i 1) (i 2)).trans (Eq.trans ?_ (Cert.KernelIdeal.Value.result_at m ρ c (i 0) (i 1) (i 2)).symm)
  rw [nets_eq h, h.1]

end Cert.Agree
end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The whole claim: the three programs end with their arguments and counters as launched, and at the ideal values the
    kernel's result is the reference's. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, ?_, trivial, ?_⟩
  · intro m g _
    exact θ_run_mono (Cert.ReferenceIdeal.Value.run m g) fun r h =>
      ⟨fun c => (h c).2, sem_eq_zero_of_no_sems (sig := Cert.ReferenceIdeal.sig) rfl r.2⟩
  · intro m g m' g' _ hagree
    exact ⟨fun c => Cert.KernelIdeal.Gen.W4 m g c (Proc.devRef .tc Cert.KernelIdeal.main_v0), Cert.KernelIdeal.Value.run m g,
      θ_run_mono (Cert.ReferenceIdeal.Value.run m' g') fun r h c => ⟨(h c).1.trans (Cert.Agree.result_eq (hagree c) g), (h c).2⟩⟩⟩

end Cert.Proof

end
